-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "score" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "clip" .f32 0x42FC0000#32 ⊤
  ∧ IdealRules.named_const.Statement Cert.KernelIdeal.κ "neg_ln2" .f32 0xBF317218#32 ((-(Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x16x128 : Shape := ⟨4, ![2, 1024, 16, 128]⟩
abbrev S2x1024x16 : Shape := ⟨3, ![2, 1024, 16]⟩
abbrev S2x1024x8x128 : Shape := ⟨4, ![2, 1024, 8, 128]⟩
abbrev S2x1024x8 : Shape := ⟨3, ![2, 1024, 8]⟩
abbrev S_ : Shape := ⟨0, ![]⟩

class Facts : Prop where
  bcast_S_S2x1024x16x128 : S_.BroadcastsInDim S2x1024x16x128 (![] : Fin 0 → Fin S2x1024x16x128.rank)
  bcast_S_S2x1024x16 : S_.BroadcastsInDim S2x1024x16 (![] : Fin 0 → Fin S2x1024x16.rank)
  bcast_S_S2x1024x8x128 : S_.BroadcastsInDim S2x1024x8x128 (![] : Fin 0 → Fin S2x1024x8x128.rank)
  bcast_S_S2x1024x8 : S_.BroadcastsInDim S2x1024x8 (![] : Fin 0 → Fin S2x1024x8.rank)

variable [Facts]

def fn {F : FTy → Type} [FloatOps F] (main_arg0 : FVec F S2x1024x16x128 .f32) (main_arg1 : FVec F S2x1024x16 .f32) (main_arg2 : FVec F S2x1024x8x128 .f32) (main_arg3 : FVec F S2x1024x8 .f32) (main_arg4 : FVec F S2x1024x8x128 .f32) (main_arg5 : FVec F S2x1024x8 .f32) : IVec S2x1024x16x128 1 × IVec S2x1024x16 1 × IVec S2x1024x8x128 1 × IVec S2x1024x8 1 :=
  let main_v0 : FVec F S2x1024x16x128 .f32 := subf main_arg0 main_arg0
  let main_cst : FVec F S_ .f32 := constant S_ .f32 0x00000000#32
  let main_v1 : FVec F S2x1024x16x128 .f32 := broadcastInDim S2x1024x16x128 ![] bcast_S_S2x1024x16x128 main_cst
  let main_v2 : IVec S2x1024x16x128 1 := cmpf .oeq main_v0 main_v1
  let main_v3 : FVec F S2x1024x16 .f32 := subf main_arg1 main_arg1
  let main_cst_0 : FVec F S_ .f32 := constant S_ .f32 0x00000000#32
  let main_v4 : FVec F S2x1024x16 .f32 := broadcastInDim S2x1024x16 ![] bcast_S_S2x1024x16 main_cst_0
  let main_v5 : IVec S2x1024x16 1 := cmpf .oeq main_v3 main_v4
  let main_v6 : FVec F S2x1024x8x128 .f32 := subf main_arg2 main_arg2
  let main_cst_1 : FVec F S_ .f32 := constant S_ .f32 0x00000000#32
  let main_v7 : FVec F S2x1024x8x128 .f32 := broadcastInDim S2x1024x8x128 ![] bcast_S_S2x1024x8x128 main_cst_1
  let main_v8 : IVec S2x1024x8x128 1 := cmpf .oeq main_v6 main_v7
  let main_v9 : FVec F S2x1024x8 .f32 := subf main_arg3 main_arg3
  let main_cst_2 : FVec F S_ .f32 := constant S_ .f32 0x00000000#32
  let main_v10 : FVec F S2x1024x8 .f32 := broadcastInDim S2x1024x8 ![] bcast_S_S2x1024x8 main_cst_2
  let main_v11 : IVec S2x1024x8 1 := cmpf .oeq main_v9 main_v10
  (main_v2, main_v5, main_v8, main_v11)
-- ==== Kernel.lean ====
abbrev S2x1024x16x128 : Shape := ⟨4, ![2, 1024, 16, 128]⟩
abbrev S2x1024x16 : Shape := ⟨3, ![2, 1024, 16]⟩
abbrev S2x1024x8x128 : Shape := ⟨4, ![2, 1024, 8, 128]⟩
abbrev S2x1024x8 : Shape := ⟨3, ![2, 1024, 8]⟩
abbrev S2x1024x2048 : Shape := ⟨3, ![2, 1024, 2048]⟩
abbrev S2x8x8x16x8x128 : Shape := ⟨6, ![2, 8, 8, 16, 8, 128]⟩
abbrev S2x8x16x8x8x128 : Shape := ⟨6, ![2, 8, 16, 8, 8, 128]⟩
abbrev S2x8x1024x128 : Shape := ⟨4, ![2, 8, 1024, 128]⟩
abbrev S2x8x128x1024 : Shape := ⟨4, ![2, 8, 128, 1024]⟩
abbrev S2x8x8x16x8 : Shape := ⟨5, ![2, 8, 8, 16, 8]⟩
abbrev S2x8x16x8x8 : Shape := ⟨5, ![2, 8, 16, 8, 8]⟩
abbrev S2x8x1024 : Shape := ⟨3, ![2, 8, 1024]⟩
abbrev S2x8x1x1024 : Shape := ⟨4, ![2, 8, 1, 1024]⟩
abbrev S2x8x1024x1 : Shape := ⟨4, ![2, 8, 1024, 1]⟩
abbrev S2x1024x8x2 : Shape := ⟨4, ![2, 1024, 8, 2]⟩
abbrev S2x8x2x1024 : Shape := ⟨4, ![2, 8, 2, 1024]⟩
abbrev S1x1024x256 : Shape := ⟨3, ![1, 1024, 256]⟩
abbrev S1x1x1024x128 : Shape := ⟨4, ![1, 1, 1024, 128]⟩
abbrev S1x1x128x1024 : Shape := ⟨4, ![1, 1, 128, 1024]⟩
abbrev S1x1x2x1024 : Shape := ⟨4, ![1, 1, 2, 1024]⟩
abbrev S1x1x1024x1 : Shape := ⟨4, ![1, 1, 1024, 1]⟩
abbrev S1x1x1x1024 : Shape := ⟨4, ![1, 1, 1, 1024]⟩
abbrev S1024x128 : Shape := ⟨2, ![1024, 128]⟩
abbrev S128x1024 : Shape := ⟨2, ![128, 1024]⟩
abbrev S1024x1 : Shape := ⟨2, ![1024, 1]⟩
abbrev S1x1024 : Shape := ⟨2, ![1, 1024]⟩
abbrev S8x256 : Shape := ⟨2, ![8, 256]⟩
abbrev S1x128x128 : Shape := ⟨3, ![1, 128, 128]⟩
abbrev S128x128 : Shape := ⟨2, ![128, 128]⟩
abbrev S256x128 : Shape := ⟨2, ![256, 128]⟩
abbrev S1x1x1x128 : Shape := ⟨4, ![1, 1, 1, 128]⟩
abbrev S1x128 : Shape := ⟨2, ![1, 128]⟩
abbrev S1x256 : Shape := ⟨2, ![1, 256]⟩
abbrev S1x1x128x128 : Shape := ⟨4, ![1, 1, 128, 128]⟩
abbrev S128x256 : Shape := ⟨2, ![128, 256]⟩
abbrev S8x128 : Shape := ⟨2, ![8, 128]⟩

abbrev nBuf : Space → Nat
  | .hbm => 33
  | .vmem => 18
  | .smem => 0
  | _ => 0

abbrev bufTy : (tb : Table) → Fin (tcTables nBuf tb) → BufTy
  | .hbm, ⟨0, _⟩ => ⟨S2x1024x16x128, .f32⟩
  | .hbm, ⟨1, _⟩ => ⟨S2x1024x16, .f32⟩
  | .hbm, ⟨2, _⟩ => ⟨S2x1024x8x128, .f32⟩
  | .hbm, ⟨3, _⟩ => ⟨S2x1024x8, .f32⟩
  | .hbm, ⟨4, _⟩ => ⟨S2x1024x8x128, .f32⟩
  | .hbm, ⟨5, _⟩ => ⟨S2x1024x8, .f32⟩
  | .hbm, ⟨6, _⟩ => ⟨S2x1024x16x128, .fp8e4m3⟩
  | .hbm, ⟨7, _⟩ => ⟨S2x1024x8x128, .fp8e4m3⟩
  | .hbm, ⟨8, _⟩ => ⟨S2x1024x8x128, .fp8e4m3⟩
  | .hbm, ⟨9, _⟩ => ⟨S2x1024x2048, .fp8e4m3⟩
  | .hbm, ⟨10, _⟩ => ⟨S2x8x8x16x8x128, .fp8e4m3⟩
  | .hbm, ⟨11, _⟩ => ⟨S2x8x16x8x8x128, .fp8e4m3⟩
  | .hbm, ⟨12, _⟩ => ⟨S2x8x8x16x8x128, .fp8e4m3⟩
  | .hbm, ⟨13, _⟩ => ⟨S2x8x1024x128, .fp8e4m3⟩
  | .hbm, ⟨14, _⟩ => ⟨S2x8x8x16x8x128, .fp8e4m3⟩
  | .hbm, ⟨15, _⟩ => ⟨S2x8x16x8x8x128, .fp8e4m3⟩
  | .hbm, ⟨16, _⟩ => ⟨S2x8x8x16x8x128, .fp8e4m3⟩
  | .hbm, ⟨17, _⟩ => ⟨S2x8x1024x128, .fp8e4m3⟩
  | .hbm, ⟨18, _⟩ => ⟨S2x8x128x1024, .fp8e4m3⟩
  | .hbm, ⟨19, _⟩ => ⟨S2x8x8x16x8, .f32⟩
  | .hbm, ⟨20, _⟩ => ⟨S2x8x16x8x8, .f32⟩
  | .hbm, ⟨21, _⟩ => ⟨S2x8x8x16x8, .f32⟩
  | .hbm, ⟨22, _⟩ => ⟨S2x8x1024, .f32⟩
  | .hbm, ⟨23, _⟩ => ⟨S2x8x1x1024, .f32⟩
  | .hbm, ⟨24, _⟩ => ⟨S2x8x8x16x8, .f32⟩
  | .hbm, ⟨25, _⟩ => ⟨S2x8x16x8x8, .f32⟩
  | .hbm, ⟨26, _⟩ => ⟨S2x8x8x16x8, .f32⟩
  | .hbm, ⟨27, _⟩ => ⟨S2x8x1024, .f32⟩
  | .hbm, ⟨28, _⟩ => ⟨S2x8x1024x1, .f32⟩
  | .hbm, ⟨29, _⟩ => ⟨S2x1024x8x2, .f32⟩
  | .hbm, ⟨30, _⟩ => ⟨S2x8x2x1024, .f32⟩
  | .hbm, ⟨31, _⟩ => ⟨S2x1024x2048, .bf16⟩
  | .hbm, ⟨32, _⟩ => ⟨S2x8x2x1024, .f32⟩
  | .local _ .vmem, ⟨0, _⟩ => ⟨S1x1024x256, .fp8e4m3⟩
  | .local _ .vmem, ⟨1, _⟩ => ⟨S1x1024x256, .fp8e4m3⟩
  | .local _ .vmem, ⟨2, _⟩ => ⟨S1x1x1024x128, .fp8e4m3⟩
  | .local _ .vmem, ⟨3, _⟩ => ⟨S1x1x1024x128, .fp8e4m3⟩
  | .local _ .vmem, ⟨4, _⟩ => ⟨S1x1x128x1024, .fp8e4m3⟩
  | .local _ .vmem, ⟨5, _⟩ => ⟨S1x1x128x1024, .fp8e4m3⟩
  | .local _ .vmem, ⟨6, _⟩ => ⟨S1x1x2x1024, .f32⟩
  | .local _ .vmem, ⟨7, _⟩ => ⟨S1x1x2x1024, .f32⟩
  | .local _ .vmem, ⟨8, _⟩ => ⟨S1x1x1024x1, .f32⟩
  | .local _ .vmem, ⟨9, _⟩ => ⟨S1x1x1024x1, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1024x256, .bf16⟩
  | .local _ .vmem, ⟨13, _⟩ => ⟨S1x1024x256, .bf16⟩
  | .local _ .vmem, ⟨14, _⟩ => ⟨S1x1x2x1024, .f32⟩
  | .local _ .vmem, ⟨15, _⟩ => ⟨S1x1x2x1024, .f32⟩
  | .local _ .vmem, ⟨16, _⟩ => ⟨S1024x128, .f32⟩
  | .local _ .vmem, ⟨17, _⟩ => ⟨S128x1024, .bf16⟩
  | _, _ => ⟨S2x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "clip" => some ⊤
  | "log2e" => some (((Real.log 2)⁻¹ : ℝ) : EReal)
  | "mask" => some ⊥
  | "neg_ln2" => some ((-(Real.log 2) : ℝ) : EReal)
  | "score" => some (((Real.sqrt 128)⁻¹ * (Real.log 2)⁻¹ : ℝ) : EReal)
  | _ => none
-- ==== ReferenceIdeal.lean ====
abbrev S2x1024x16x128 : Shape := ⟨4, ![2, 1024, 16, 128]⟩
abbrev S2x1024x16 : Shape := ⟨3, ![2, 1024, 16]⟩
abbrev S2x1024x8x128 : Shape := ⟨4, ![2, 1024, 8, 128]⟩
abbrev S2x1024x8 : Shape := ⟨3, ![2, 1024, 8]⟩
abbrev S2x1024x8x2x128 : Shape := ⟨5, ![2, 1024, 8, 2, 128]⟩
abbrev S2x1024x8x2 : Shape := ⟨4, ![2, 1024, 8, 2]⟩
abbrev S2x8x2x1024 : Shape := ⟨4, ![2, 8, 2, 1024]⟩
abbrev S2x8x1024 : Shape := ⟨3, ![2, 8, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S2x8x1024x1024x2 : Shape := ⟨5, ![2, 8, 1024, 1024, 2]⟩
abbrev S2x8x2x1024x1024 : Shape := ⟨5, ![2, 8, 2, 1024, 1024]⟩
abbrev S2x8x2x1024x1 : Shape := ⟨5, ![2, 8, 2, 1024, 1]⟩
abbrev S2x8x1x1x1024 : Shape := ⟨5, ![2, 8, 1, 1, 1024]⟩
abbrev S_ : Shape := ⟨0, ![]⟩
abbrev S2x8x128x2x1024 : Shape := ⟨5, ![2, 8, 128, 2, 1024]⟩
abbrev S2x1024x2048 : Shape := ⟨3, ![2, 1024, 2048]⟩

abbrev nBuf : Space → Nat
  | .hbm => 64
  | .vmem => 0
  | .smem => 0
  | _ => 0

abbrev bufTy : (tb : Table) → Fin (tcTables nBuf tb) → BufTy
  | .hbm, ⟨0, _⟩ => ⟨S2x1024x16x128, .f32⟩
  | .hbm, ⟨1, _⟩ => ⟨S2x1024x16, .f32⟩
  | .hbm, ⟨2, _⟩ => ⟨S2x1024x8x128, .f32⟩
  | .hbm, ⟨3, _⟩ => ⟨S2x1024x8, .f32⟩
  | .hbm, ⟨4, _⟩ => ⟨S2x1024x8x128, .f32⟩
  | .hbm, ⟨5, _⟩ => ⟨S2x1024x8, .f32⟩
  | .hbm, ⟨6, _⟩ => ⟨S2x1024x8x2x128, .f32⟩
  | .hbm, ⟨7, _⟩ => ⟨S2x1024x8x2, .f32⟩
  | .hbm, ⟨8, _⟩ => ⟨S2x8x2x1024, .f32⟩
  | .hbm, ⟨9, _⟩ => ⟨S2x8x1024, .f32⟩
  | .hbm, ⟨10, _⟩ => ⟨S2x8x1024, .f32⟩
  | .hbm, ⟨11, _⟩ => ⟨S1024, .i32⟩
  | .hbm, ⟨12, _⟩ => ⟨S1x1024, .i32⟩
  | .hbm, ⟨13, _⟩ => ⟨S1024x1, .i32⟩
  | .hbm, ⟨14, _⟩ => ⟨S1024x1024, .i32⟩
  | .hbm, ⟨15, _⟩ => ⟨S1024x1024, .i32⟩
  | .hbm, ⟨16, _⟩ => ⟨S1024x1024, .i1⟩
  | .hbm, ⟨17, _⟩ => ⟨S2x8x1024x1024x2, .f32⟩
  | .hbm, ⟨18, _⟩ => ⟨S2x8x2x1024x1024, .f32⟩
  | .hbm, ⟨19, _⟩ => ⟨S2x8x2x1024x1, .f32⟩
  | .hbm, ⟨20, _⟩ => ⟨S2x8x1x1x1024, .f32⟩
  | .hbm, ⟨21, _⟩ => ⟨S2x8x2x1024x1024, .f32⟩
  | .hbm, ⟨22, _⟩ => ⟨S2x8x2x1024x1024, .f32⟩
  | .hbm, ⟨23, _⟩ => ⟨S2x8x2x1024x1024, .f32⟩
  | .hbm, ⟨24, _⟩ => ⟨S2x8x2x1024x1024, .f32⟩
  | .hbm, ⟨25, _⟩ => ⟨S_, .f32⟩
  | .hbm, ⟨26, _⟩ => ⟨S_, .f32⟩
  | .hbm, ⟨27, _⟩ => ⟨S2x8x2x1024x1024, .f32⟩
  | .hbm, ⟨28, _⟩ => ⟨S2x8x2x1024x1024, .f32⟩
  | .hbm, ⟨29, _⟩ => ⟨S2x8x2x1024x1024, .i1⟩
  | .hbm, ⟨30, _⟩ => ⟨S2x8x2x1024x1024, .f32⟩
  | .hbm, ⟨31, _⟩ => ⟨S_, .f32⟩
  | .hbm, ⟨32, _⟩ => ⟨S2x8x2x1024x1024, .f32⟩
  | .hbm, ⟨33, _⟩ => ⟨S2x8x2x1024x1024, .f32⟩
  | .hbm, ⟨34, _⟩ => ⟨S2x8x2x1024x1024, .f32⟩
  | .hbm, ⟨35, _⟩ => ⟨S2x8x2x1024x1024, .f32⟩
  | .hbm, ⟨36, _⟩ => ⟨S_, .f32⟩
  | .hbm, ⟨37, _⟩ => ⟨S2x8x2x1024x1024, .f32⟩
  | .hbm, ⟨38, _⟩ => ⟨S2x8x2x1024x1024, .f32⟩
  | .hbm, ⟨39, _⟩ => ⟨S1024x1, .i32⟩
  | .hbm, ⟨40, _⟩ => ⟨S1x1024, .i32⟩
  | .hbm, ⟨41, _⟩ => ⟨S1024x1024, .i32⟩
  | .hbm, ⟨42, _⟩ => ⟨S1024x1024, .i32⟩
  | .hbm, ⟨43, _⟩ => ⟨S1024x1024, .i1⟩
  | .hbm, ⟨44, _⟩ => ⟨S1024x1024, .f32⟩
  | .hbm, ⟨45, _⟩ => ⟨S2x8x2x1024x1024, .f32⟩
  | .hbm, ⟨46, _⟩ => ⟨S2x8x2x1024x1024, .i1⟩
  | .hbm, ⟨47, _⟩ => ⟨S2x8x2x1024x1024, .f32⟩
  | .hbm, ⟨48, _⟩ => ⟨S2x8x2x1024x1024, .f32⟩
  | .hbm, ⟨49, _⟩ => ⟨S_, .f32⟩
  | .hbm, ⟨50, _⟩ => ⟨S2x8x2x1024x1024, .f32⟩
  | .hbm, ⟨51, _⟩ => ⟨S2x8x2x1024x1024, .f32⟩
  | .hbm, ⟨52, _⟩ => ⟨S2x8x1x1x1024, .f32⟩
  | .hbm, ⟨53, _⟩ => ⟨S2x8x2x1024x1024, .f32⟩
  | .hbm, ⟨54, _⟩ => ⟨S2x8x2x1024x1024, .f32⟩
  | .hbm, ⟨55, _⟩ => ⟨S2x8x2x1024x1024, .bf16⟩
  | .hbm, ⟨56, _⟩ => ⟨S2x1024x8x128, .bf16⟩
  | .hbm, ⟨57, _⟩ => ⟨S2x8x128x2x1024, .f32⟩
  | .hbm, ⟨58, _⟩ => ⟨S2x1024x8x2x128, .f32⟩
  | .hbm, ⟨59, _⟩ => ⟨S2x1024x2048, .f32⟩
  | .hbm, ⟨60, _⟩ => ⟨S2x1024x2048, .bf16⟩
  | .hbm, ⟨61, _⟩ => ⟨S2x8x2x1024x1, .f32⟩
  | .hbm, ⟨62, _⟩ => ⟨S2x8x2x1024, .f32⟩
  | .hbm, ⟨63, _⟩ => ⟨S2x8x2x1024, .f32⟩
  | _, _ => ⟨S2x1024x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Proof.Body.lean ====
/- The kernel's body at one grid point, as functions of what it loads.

   A query block of 128 positions holds the two heads of a group side by side, as 256 columns. Its key chunks are taken
   from the diagonal one down to the first. A chunk's 128 keys stand as 16 rows of 8 sublanes: row `v`, sublane `s` is
   key `16 s + v` of the chunk, so a sublane holds a run of 16 keys. Within a run the sums are taken from the last row
   to the first, across runs by rotations of the sublanes, across chunks by a carry. `body_out` and `body_lr` state
   that what the body stores is these functions of its loads: the two texts are one, operation by operation. -/
module

public import proofs.«01_k».proof.Proof.Gen.KernelIdeal.Value

@[expose] public section

noncomputable section

namespace Cert.StickBreaking

open Idealize.ShloMosaic Idealize.SL.Sem Idealize.ShloMosaic.Tactic Cert.KernelIdeal Cert.KernelIdeal.Gen

variable {F : FTy → Type} [FloatOps F] [Named F]

/-! ## Side conditions at a variable block, chunk or row -/

theorem slices_row (v : Fin 16) : S128x256.Slices ![8 * v.val, 0] S8x256 := by
  revert v; decide

theorem inb_q (n : Fin 8) (g : Fin 2) :
    ∀ a, (![0, 128 * n.val, 128 * g.val] : Fin 3 → Nat) a + S1x128x128.size a ≤ S1x1024x256.size a := by
  revert n g; decide

theorem inb_k (n : Fin 8) : ∀ a, (![0, 0, 128 * n.val, 0] : Fin 4 → Nat) a + S1x1x128x128.size a ≤ S1x1x1024x128.size a := by
  revert n; decide

theorem inb_qs (n : Fin 8) (g : Fin 2) :
    ∀ a, (![0, 0, g.val, 128 * n.val] : Fin 4 → Nat) a + S1x1x1x128.size a ≤ S1x1x2x1024.size a := by
  revert n g; decide

theorem inb_ks (n : Fin 8) (v : Fin 16) :
    ∀ a, (![128 * n.val + 8 * v.val, 0] : Fin 2 → Nat) a + S8x128.size a ≤ S1024x128.size a := by
  revert n v; decide

theorem inb_vt (n : Fin 8) : ∀ a, (![0, 128 * n.val] : Fin 2 → Nat) a + S128x128.size a ≤ S128x1024.size a := by
  revert n; decide

theorem concatenates_rows (f : Fin 16 → FVec F S8x256 .f32) :
    Shape.Concatenates ((List.ofFn fun n => (⟨S8x256, f n⟩ : (s : Shape) × (s.Idx → F .f32))).map (·.1)) S128x256 0 := by
  rw [List.map_ofFn]
  show Shape.Concatenates (List.ofFn fun _ : Fin 16 => S8x256) S128x256 0
  decide

/-! ## Constants -/

/-- The sublane of an element. -/
def sub : IVec S8x256 32 := iota .tc S8x256 32 [0] iota_S8x256_d0_w32

/-- The zero vector. -/
def zeros : FVec F S8x256 .f32 := broadcast S8x256 (Scalar.ofBits .f32 0x00000000#32)

/-- The position in its query block of an element's query: its column, modulo 128. -/
def lane : IVec S8x256 32 :=
  have v21 : IVec S8x256 32 := iota .tc S8x256 32 [1] iota_S8x256_d1_w32
  have v23 : BitVec 32 := Scalar.select (Scalar.cmpi .eq 128#32 0#32) 1#32 128#32
  have v25 : IVec S8x256 32 := remsi v21 (broadcast S8x256 v23)
  have v27 : IVec S8x256 1 := cmpi .ne v25 (broadcast S8x256 0#32)
  have v29 : IVec S8x256 1 := cmpi .slt v25 (broadcast S8x256 0#32)
  have v32 : IVec S8x256 1 := broadcastTo S8x256 (broadcast S8x256 (Scalar.cmpi .slt v23 0#32)) broadcasts_S8x256_S8x256
  select (andi (xori v29 v32) v27) (addi v25 (broadcast S8x256 v23)) v25

/-- `log₂ e` everywhere. -/
def log2es : FVec F S8x256 .f32 := broadcast S8x256 (Named.named κ "log2e" 0x3FB8AA3B#32)

/-! ## One row of scores -/

section Row

variable (dots : FVec F S128x256 .f32) (ks : Fin 16 → Vec F S8x128 .f32) (qs : FVec F S8x256 .f32)

/-- Row `v`'s scores, scaled. -/
def score (v : Fin 16) : FVec F S8x256 .f32 :=
  mulf (mulf (extractStridedSlice S8x256 ![8 * v.val, 0] dots (slices_row v))
    (concatenate S8x256 1 [⟨S8x128, ks v⟩, ⟨S8x128, ks v⟩] concatenates_S8x128_S8x128_S8x256_d1)) qs

/-- … and, in the diagonal chunk, masked where the key is not before the query. -/
def masked (diag : Bool) (v : Fin 16) : FVec F S8x256 .f32 :=
  cond diag
    (select (cmpi .slt (addi (muli sub (broadcast S8x256 16#32)) (broadcast S8x256 (BitVec.ofNat 32 v.val))) lane)
      (score dots ks qs v) (broadcast S8x256 (Named.named κ "mask" 0xF149F2CA#32)))
    (score dots ks qs v)

/-- The softplus of a row, in base 2. -/
def softRow (y : FVec F S8x256 .f32) : FVec F S8x256 .f32 :=
  have w : FVec F S8x256 .f32 := exp2 (minimumf y (broadcast S8x256 (Named.named κ "clip" 0x42FC0000#32)))
  maximumf y (minimumf (mulf w log2es)
    (mulf (log (addf w (broadcast S8x256 (Scalar.ofBits .f32 0x3F800001#32)))) log2es))

/-- What row `v` adds to the sums. -/
def soft (diag : Bool) (v : Fin 16) : FVec F S8x256 .f32 :=
  cond diag (maximumf (softRow (masked dots ks qs diag v)) zeros) (softRow (masked dots ks qs diag v))

/-- The sum of the last `n` rows of every run. -/
def acc (diag : Bool) : ℕ → FVec F S8x256 .f32
  | 0 => zeros
  | n + 1 => addf (acc diag n) (soft dots ks qs diag (Fin.ofNat 16 (15 - n)))

/-- Row `v`'s scores less the sums from it to the end of its run. -/
def rest (diag : Bool) (v : Fin 16) : FVec F S8x256 .f32 :=
  subf (masked dots ks qs diag v) (acc dots ks qs diag (16 - v.val))

/-! ## Across the runs of a chunk -/

/-- One step of the suffix sums over sublanes: every sublane adds the one `k` after it, where there is one. -/
def shift (k : ℕ) (x : FVec F S8x256 .f32) : FVec F S8x256 .f32 :=
  addf x (select (cmpi .slt sub (broadcast S8x256 (BitVec.ofNat 32 (8 - k))))
    (dynamicRotate 0 (BitVec.ofNat 32 (8 - k)) none x rotates_S8x256_d0) zeros)

/-- The sums from each run to the end of the chunk. -/
def suffix (diag : Bool) : FVec F S8x256 .f32 := shift 4 (shift 2 (shift 1 (acc dots ks qs diag 16)))

/-- What is added to a run's own sums: the runs after it in the chunk, and the chunks after it. -/
def offset (diag : Bool) (carry : FVec F S8x256 .f32) : FVec F S8x256 .f32 :=
  addf (subf (suffix dots ks qs diag) (acc dots ks qs diag 16)) carry

/-- The weights of a chunk. -/
def weights (diag : Bool) (carry : FVec F S8x256 .f32) : FVec F S128x256 .f32 :=
  concatenate S128x256 0
    (List.ofFn fun v => ⟨S8x256, exp2 (subf (rest dots ks qs diag v) (offset dots ks qs diag carry))⟩) (concatenates_rows _)

/-- The carry after a chunk. -/
def carried (diag : Bool) (carry : FVec F S8x256 .f32) : FVec F S8x256 .f32 :=
  addf carry (broadcastTo S8x256
    (shapeCast S1x256 (extractStridedSlice S1x256 ![0, 0] (suffix dots ks qs diag) slices_S8x256_o0_0_S1x256)
      shapeCasts_S1x256_S1x256) broadcasts_S1x256_S8x256)

end Row

/-! ## Across the chunks of a query block -/

section Block

variable (Q : Fin 8 → Fin 2 → Vec F S1x128x128 .fp8e4m3) (QS : Fin 8 → Fin 2 → Vec F S1x1x1x128 .f32)
  (K : Fin 8 → Vec F S1x1x128x128 .fp8e4m3) (KS : Fin 8 → Fin 16 → Vec F S8x128 .f32) (VT : Fin 8 → Vec F S128x128 .bf16)

/-- Block `n`'s queries, both heads. -/
def queries (n : Fin 8) : FVec F S256x128 .fp8e4m3 :=
  concatenate S256x128 0 [⟨S128x128, shapeCast S128x128 (Q n 0) shapeCasts_S1x128x128_S128x128⟩,
    ⟨S128x128, shapeCast S128x128 (Q n 1) shapeCasts_S1x128x128_S128x128⟩] concatenates_S128x128_S128x128_S256x128_d0

/-- Their scales, on every sublane. -/
def scales (n : Fin 8) : FVec F S8x256 .f32 :=
  broadcastTo S8x256 (shapeCast S1x256
    (concatenate S1x256 1 [⟨S1x128, shapeCast S1x128 (QS n 0) shapeCasts_S1x1x1x128_S1x128⟩,
      ⟨S1x128, shapeCast S1x128 (QS n 1) shapeCasts_S1x1x1x128_S1x128⟩] concatenates_S1x128_S1x128_S1x256_d1)
    shapeCasts_S1x256_S1x256) broadcasts_S1x256_S8x256

/-- The products of chunk `c`'s keys by block `n`'s queries. -/
def products (n c : Fin 8) : FVec F S128x256 .f32 :=
  matmul dot_S128x128_S256x128_S128x256_1_1_0_0_n_n none
    (shapeCast S128x128 (K c) shapeCasts_S1x1x128x128_S128x128) (queries Q n) (constant S128x256 .f32 0x00000000#32)

/-- The chunk taken `k`-th, from the diagonal down. -/
def chunk (n : Fin 8) (k : ℕ) : Fin 8 := Fin.ofNat 8 (n.val - k)

/-- The carry into the chunk taken `k`-th. -/
def carry (n : Fin 8) : ℕ → FVec F S8x256 .f32
  | 0 => zeros
  | k + 1 => carried (products Q K n (chunk n k)) (KS (chunk n k)) (scales QS n) (k == 0) (carry n k)

/-- What the chunk taken `k`-th adds to the output. -/
def contribution (n : Fin 8) (k : ℕ) : FVec F S128x256 .f32 :=
  matmul dot_S128x128_S128x256_S128x256_1_0_0_1_n_n none (VT (chunk n k))
    (truncf .bf16 (weights (products Q K n (chunk n k)) (KS (chunk n k)) (scales QS n) (k == 0) (carry Q QS K KS n k))
      bitsLt_bf16_f32) (constant S128x256 .f32 0x00000000#32)

/-- The output after the chunk taken `k`-th. -/
def total (n : Fin 8) : ℕ → FVec F S128x256 .f32
  | 0 => contribution Q QS K KS VT n 0
  | k + 1 => addf (total n k) (contribution Q QS K KS VT n (k + 1))

/-- The two halves of 256 columns: one head each. -/
theorem slices_head (g : Fin 2) : S128x256.Slices ![0, 128 * g.val] S128x128 := by
  revert g; decide

theorem slices_lr (g : Fin 2) : S8x256.Slices ![0, 128 * g.val] S1x128 := by
  revert g; decide

/-- What block `n` stores into the output for head `g`. -/
def outPiece (n : Fin 8) (g : Fin 2) : FVec F S1x128x128 .bf16 :=
  shapeCast S1x128x128 (truncf .bf16 (transpose S128x128 [1, 0]
    (extractStridedSlice S128x128 ![0, 128 * g.val] (total Q QS K KS VT n n.val) (slices_head g))
    transposes_S128x128_p1_0_S128x128) bitsLt_bf16_f32) shapeCasts_S128x128_S1x128x128

/-- What block `n` stores into the log remainders for head `g`. -/
def lrPiece (n : Fin 8) (g : Fin 2) : FVec F S1x1x1x128 .f32 :=
  shapeCast S1x1x1x128 (mulf (extractStridedSlice S1x128 ![0, 128 * g.val] (carry Q QS K KS n (n.val + 1)) (slices_lr g))
    (broadcast S1x128 (Named.named κ "neg_ln2" 0xBF317218#32))) shapeCasts_S1x128_S1x1x1x128

end Block

/-! ## The loads, and what is stored -/

section Run

variable (c : Dev nD) (i : grid0.Coords)
  (arg2 : Memref sig .tc .vmem S1x1024x256 .fp8e4m3) (harg2 : arg2.IsWhole)
  (arg3 : Memref sig .tc .vmem S1x1x1024x128 .fp8e4m3) (harg3 : arg3.IsWhole)
  (arg4 : Memref sig .tc .vmem S1x1x128x1024 .fp8e4m3) (harg4 : arg4.IsWhole)
  (arg5 : Memref sig .tc .vmem S1x1x2x1024 .f32) (harg5 : arg5.IsWhole)
  (arg6 : Memref sig .tc .vmem S1x1x1024x1 .f32) (harg6 : arg6.IsWhole)
  (arg7 : Memref sig .tc .vmem S1x1x1x1024 .f32) (harg7 : arg7.IsWhole)
  (arg8 : Memref sig .tc .vmem S1x1024x256 .bf16) (harg8 : arg8.IsWhole)
  (arg9 : Memref sig .tc .vmem S1x1x2x1024 .f32) (harg9 : arg9.IsWhole)
  (arg10 : Memref sig .tc .vmem S1024x128 .f32) (harg10 : arg10.IsWhole)
  (arg11 : Memref sig .tc .vmem S128x1024 .bf16) (harg11 : arg11.IsWhole)
  (x0 : Vec F S1x1024x256 .fp8e4m3) (x1 : Vec F S1x1x1024x128 .fp8e4m3) (x2 : Vec F S1x1x128x1024 .fp8e4m3)
  (x3 : Vec F S1x1x2x1024 .f32) (x4 : Vec F S1x1x1024x1 .f32) (x5 : Vec F S1x1x1x1024 .f32)

/-- The loads of the queries … -/
def loadQ (n : Fin 8) (g : Fin 2) : Vec F S1x128x128 .fp8e4m3 :=
  View.readAt (Elt F) arg2.view
    (Rect.unit (s := S1x1024x256) ![0, 128 * n.val, 128 * g.val] S1x128x128.size (inb_q n g)).toLoadRect (harg2.unread x0)

/-- … of the keys … -/
def loadK (n : Fin 8) : Vec F S1x1x128x128 .fp8e4m3 :=
  View.readAt (Elt F) arg3.view
    (Rect.unit (s := S1x1x1024x128) ![0, 0, 128 * n.val, 0] S1x1x128x128.size (inb_k n)).toLoadRect (harg3.unread x1)

/-- … of the query scales … -/
def loadQS (n : Fin 8) (g : Fin 2) : Vec F S1x1x1x128 .f32 :=
  View.readAt (Elt F) arg5.view
    (Rect.unit (s := S1x1x2x1024) ![0, 0, g.val, 128 * n.val] S1x1x1x128.size (inb_qs n g)).toLoadRect (harg5.unread x3)

/-- … of the scaled key scales, out of the scratch buffer they were stored in … -/
def loadKS (n : Fin 8) (v : Fin 16) : Vec F S8x128 .f32 :=
  arg10.view.readCov (Val := Elt F)
    [⟨Rect.unit (s := S1024x128) ![0, 0] S1024x128.size inb_S1024x128_S1024x128_0_0,
      k0_pay4 (View.readAt (Elt F) arg6.view (Rect.unit (s := S1x1x1024x1) ![0, 0, 0, 0] S1x1x1024x1.size
        inb_S1x1x1024x1_S1x1x1024x1_0_0_0_0).toLoadRect (harg6.unread x4))⟩]
    (Rect.unit (s := S1024x128) ![128 * n.val + 8 * v.val, 0] S8x128.size (inb_ks n v)).toLoadRect

/-- … and of the scaled values, likewise. -/
def loadVT (n : Fin 8) : Vec F S128x128 .bf16 :=
  arg11.view.readCov (Val := Elt F)
    [⟨Rect.unit (s := S128x1024) ![0, 0] S128x1024.size inb_S128x1024_S128x1024_0_0,
      k0_pay5 (View.readAt (Elt F) arg4.view (Rect.unit (s := S1x1x128x1024) ![0, 0, 0, 0] S1x1x128x1024.size
          inb_S1x1x128x1024_S1x1x128x1024_0_0_0_0).toLoadRect (harg4.unread x2))
        (View.readAt (Elt F) arg7.view (Rect.unit (s := S1x1x1x1024) ![0, 0, 0, 0] S1x1x1x1024.size
          inb_S1x1x1x1024_S1x1x1x1024_0_0_0_0).toLoadRect (harg7.unread x5))⟩]
    (Rect.unit (s := S128x1024) ![0, 128 * n.val] S128x128.size (inb_vt n)).toLoadRect

/-- The block and the head of the piece stored `k`-th from the last. -/
def blockOf (k : Fin 16) : Fin 8 := Fin.ofNat 8 ((15 - k.val) / 2)

def headOf (k : Fin 16) : Fin 2 := Fin.ofNat 2 (15 - k.val)

/-- The log remainders' pieces, last stored first. -/
def lrPieces : List (View.Piece (Elt F) S1x1x2x1024 .f32) :=
  List.ofFn fun k : Fin 16 =>
    ⟨Rect.unit (s := S1x1x2x1024) ![0, 0, (headOf k).val, 128 * (blockOf k).val] S1x1x1x128.size
        (inb_qs (blockOf k) (headOf k)),
      lrPiece (loadQ arg2 harg2 x0) (loadQS arg5 harg5 x3) (loadK arg3 harg3 x1) (loadKS arg6 harg6 arg10 x4)
        (blockOf k) (headOf k)⟩

/-- The output's pieces, last stored first. -/
def outPieces : List (View.Piece (Elt F) S1x1024x256 .bf16) :=
  List.ofFn fun k : Fin 16 =>
    ⟨Rect.unit (s := S1x1024x256) ![0, 128 * (blockOf k).val, 128 * (headOf k).val] S1x128x128.size
        (inb_q (blockOf k) (headOf k)),
      outPiece (loadQ arg2 harg2 x0) (loadQS arg5 harg5 x3) (loadK arg3 harg3 x1) (loadKS arg6 harg6 arg10 x4)
        (loadVT arg4 harg4 arg7 harg7 arg11 x2 x5) (blockOf k) (headOf k)⟩

set_option maxRecDepth 100000 in
theorem body_lr :
    (kernelRun0_A (F := F) c i arg2 harg2 arg3 harg3 arg4 harg4 arg5 harg5 arg6 harg6 arg7 harg7 arg8 harg8 arg9 harg9
      arg10 harg10 arg11 harg11 x0 x1 x2 x3 x4 x5).2.1
      = lrPieces arg2 harg2 arg3 harg3 arg5 harg5 arg6 harg6 arg10 x0 x1 x3 x4 := by
  sl_kernel_rfl

set_option maxRecDepth 100000 in
theorem body_out :
    (kernelRun0_A (F := F) c i arg2 harg2 arg3 harg3 arg4 harg4 arg5 harg5 arg6 harg6 arg7 harg7 arg8 harg8 arg9 harg9
      arg10 harg10 arg11 harg11 x0 x1 x2 x3 x4 x5).1
      = outPieces arg2 harg2 arg3 harg3 arg4 harg4 arg5 harg5 arg6 harg6 arg7 harg7 arg10 arg11 x0 x1 x2 x3 x4 x5 := by
  sl_kernel_rfl

end Run

end Cert.StickBreaking

end
-- ==== Proof.Softplus.lean ====
/- The kernel's softplus, one score at a time, over the extended reals.

   The kernel works in base 2: for a score `y` it computes `w = 2 ^ y` and the larger of `y` and the smaller of
   `w · log₂ e` and `log₂ (w + 1⁺)`, with `1⁺` the f32 number above one. In natural units (`y = z · log₂ e`) that is
   `softplus z · log₂ e` with `softplus z = min (eᶻ) (log (eᶻ + 1⁺))`, which is what the reference takes: the kernel's
   outer maximum changes nothing. A masked score is `⊥`, and there the value is `0`. -/
module

public import Idealize.ShloMosaic.PureOps.Ideal
public import Idealize.ShloMosaic.PureOps.Ideal.Laws

@[expose] public section

noncomputable section

namespace Cert.StickBreaking

open Idealize.ShloMosaic

/-- The f32 number above one, the guard of the kernel's logarithm. -/
def oneUp : ℝ := 1 + 1 / 8388608

theorem oneUp_gt : 1 < oneUp := by unfold oneUp; norm_num

/-- The guard's pattern denotes it. -/
theorem ofBits_oneUp : Ideal.ofBits .f32 0x3F800001#32 = ((oneUp : ℝ) : EReal) := by
  have h : Ideal.ofBits .f32 0x3F800001#32 = (((8388609 : ℝ) * (1 / 8388608 : ℝ) : ℝ) : EReal) := by
    rw [EReal.coe_mul]; simp [Ideal.ofBits, Ideal.ieee]; norm_num
  rw [h, oneUp]; norm_num

/-- `log₂ e`. -/
def log2e : ℝ := (Real.log 2)⁻¹

theorem log2e_pos : 0 < log2e := inv_pos.mpr (Real.log_pos (by norm_num))

theorem log2_mul_log2e : Real.log 2 * log2e = 1 := mul_inv_cancel₀ (Real.log_pos (by norm_num)).ne'

/-- The guarded softplus, in natural units. -/
def softplus (z : ℝ) : ℝ := min (Real.exp z) (Real.log (Real.exp z + oneUp))

theorem log_guard_pos (z : ℝ) : 0 < Real.log (Real.exp z + oneUp) :=
  Real.log_pos (by linarith [Real.exp_pos z, oneUp_gt])

theorem softplus_pos (z : ℝ) : 0 < softplus z := lt_min (Real.exp_pos z) (log_guard_pos z)

theorem le_softplus (z : ℝ) : z ≤ softplus z := by
  refine le_min (by linarith [Real.add_one_le_exp z]) ?_
  rw [Real.le_log_iff_exp_le (by linarith [Real.exp_pos z, oneUp_gt])]
  linarith [oneUp_gt]

/-- The guard never lowers the plain softplus `log (1 + eᶻ)` … -/
theorem plain_le_softplus (z : ℝ) : Real.log (1 + Real.exp z) ≤ softplus z := by
  have h := Real.exp_pos z
  refine le_min ?_ (Real.log_le_log (by linarith) (by linarith [oneUp_gt]))
  linarith [Real.log_le_sub_one_of_pos (show 0 < 1 + Real.exp z by linarith)]

/-- … and raises it by at most `2⁻²³`, whatever the score. -/
theorem softplus_le_plain (z : ℝ) : softplus z ≤ Real.log (1 + Real.exp z) + 1 / 8388608 := by
  have h := Real.exp_pos z
  have h1 : 0 < 1 + Real.exp z := by linarith
  have h2 : 0 < Real.exp z + oneUp := by linarith [oneUp_gt]
  refine (min_le_right _ _).trans ?_
  have hq := Real.log_le_sub_one_of_pos (div_pos h2 h1)
  rw [Real.log_div h2.ne' h1.ne'] at hq
  have hr : (Real.exp z + oneUp) / (1 + Real.exp z) - 1 ≤ 1 / 8388608 := by
    rw [div_sub_one h1.ne', div_le_iff₀ h1]
    unfold oneUp
    linarith
  linarith

/-- `2` to the `z · log₂ e` is `eᶻ`. -/
theorem exp2_scaled (z : ℝ) : Ideal.exp2 ((z * log2e : ℝ) : EReal) = ((Real.exp z : ℝ) : EReal) := by
  rw [Ideal.exp2_coe]
  congr 1
  show (2 : ℝ) ^ (z * log2e) = _
  rw [Real.rpow_def_of_pos (by norm_num), mul_left_comm, log2_mul_log2e, mul_one]

/-- The smaller of the two forms the kernel takes of `log₂ (1 + 2 ^ y)`, its clip at `⊤`. -/
def smaller (y : EReal) : EReal :=
  min (Ideal.exp2 (min y ⊤) * (log2e : EReal)) (Ideal.log (Ideal.exp2 (min y ⊤) + (oneUp : EReal)) * (log2e : EReal))

/-- One score's step off the diagonal. -/
def step (y : EReal) : EReal := max y (smaller y)

/-- At a finite score the step is the guarded softplus in base 2. -/
theorem step_scaled (z : ℝ) : step ((z * log2e : ℝ) : EReal) = ((softplus z * log2e : ℝ) : EReal) := by
  unfold step smaller
  rw [min_top_right, exp2_scaled, ← EReal.coe_add, Ideal.log_coe, if_neg (by linarith [Real.exp_pos z, oneUp_gt]),
    ← EReal.coe_mul, ← EReal.coe_mul, ← EReal.coe_strictMono.monotone.map_min, ← EReal.coe_strictMono.monotone.map_max]
  congr 1
  rw [← min_mul_of_nonneg _ _ log2e_pos.le, ← softplus]
  exact max_eq_right (mul_le_mul_of_nonneg_right (le_softplus z) log2e_pos.le)

/-- … and the diagonal's extra maximum with `0` leaves it. -/
theorem step_scaled_max (z : ℝ) : max (step ((z * log2e : ℝ) : EReal)) 0 = ((softplus z * log2e : ℝ) : EReal) := by
  rw [step_scaled]
  exact max_eq_left (EReal.coe_nonneg.mpr (mul_pos (softplus_pos z) log2e_pos).le)

/-- A masked score's step is `0`. -/
theorem step_bot_max : max (step ⊥) 0 = 0 := by
  unfold step smaller
  rw [min_top_right, Ideal.exp2_bot, zero_mul, zero_add, Ideal.log_coe, if_neg (by linarith [oneUp_gt]), ← EReal.coe_mul,
    min_eq_left (EReal.coe_nonneg.mpr (mul_pos (Real.log_pos oneUp_gt) log2e_pos).le)]
  simp

/-- The reference's softplus of a finite score. -/
theorem reference_softplus (z : ℝ) :
    min (Ideal.exp (z : EReal)) (Ideal.log (Ideal.exp (z : EReal) + (oneUp : EReal))) = ((softplus z : ℝ) : EReal) := by
  rw [Ideal.exp_coe, ← EReal.coe_add, Ideal.log_coe, if_neg (by linarith [Real.exp_pos z, oneUp_gt]),
    ← EReal.coe_strictMono.monotone.map_min, ← softplus]

end Cert.StickBreaking

end
-- ==== Proof.Chunk.lean ====
/- One key chunk, at one query.

   A query stands in a column `t` of the kernel's vectors; its position is `r`, and `z j` is its score against key `j`.
   The keys before it are the visible ones. `span z r a b` is the sum of the softplus over the visible keys from `a` up
   to `b`. Here the chunk's vectors are read at the column as such spans: the running sums of a run, the rotations
   across runs, the offset and, from them, the weights: key `j` gets `exp (z j − span z r j e)`, `e` the end of the
   chunks taken so far, and an invisible key gets `0`. -/
module

public import proofs.«01_k».proof.Proof.Body
public import proofs.«01_k».proof.Proof.Softplus
public import Idealize.ShloMosaic.Lib.Pointwise
public import Idealize.ShloMosaic.Lib.Tactic.WordOmega

@[expose] public section

set_option maxRecDepth 16384

noncomputable section

namespace Cert.StickBreaking

open Idealize.ShloMosaic Idealize.SL.Sem Cert.KernelIdeal Cert.KernelIdeal.Gen

/-! ## Spans -/

/-- The softplus of the visible keys from `a` up to `b`. -/
def span (z : ℕ → ℝ) (r a b : ℕ) : ℝ := ∑ j ∈ Finset.Ico a b, if j < r then softplus (z j) else 0

theorem span_add (z : ℕ → ℝ) (r : ℕ) {a b c : ℕ} (hab : a ≤ b) (hbc : b ≤ c) :
    span z r a b + span z r b c = span z r a c :=
  Finset.sum_Ico_consecutive _ hab hbc

theorem span_self (z : ℕ → ℝ) (r a : ℕ) : span z r a a = 0 := by simp [span]

theorem span_one (z : ℕ → ℝ) (r a : ℕ) : span z r a (a + 1) = if a < r then softplus (z a) else 0 := by
  simp [span]

/-- In base 2, as an extended real. -/
def span2 (z : ℕ → ℝ) (r a b : ℕ) : EReal := ((span z r a b * log2e : ℝ) : EReal)

theorem span2_add (z : ℕ → ℝ) (r : ℕ) {a b c : ℕ} (hab : a ≤ b) (hbc : b ≤ c) :
    span2 z r a b + span2 z r b c = span2 z r a c := by
  rw [span2, span2, span2, ← EReal.coe_add, ← add_mul, span_add z r hab hbc]

theorem span2_self (z : ℕ → ℝ) (r a : ℕ) : span2 z r a a = 0 := by simp [span2, span_self]

/-! ## The named constants and the positions -/

theorem named_mask : (Named.named κ "mask" 0xF149F2CA#32 : Ideal .f32) = ⊥ :=
  IdealRules.named_const.ideal_named_scalar _ _ _ _ rfl

theorem named_clip : (Named.named κ "clip" 0x42FC0000#32 : Ideal .f32) = ⊤ :=
  IdealRules.named_const.ideal_named_scalar _ _ _ _ rfl

theorem named_log2e : (Named.named κ "log2e" 0x3FB8AA3B#32 : Ideal .f32) = (log2e : EReal) :=
  IdealRules.named_const.ideal_named_scalar _ _ _ _ rfl

theorem named_neg_ln2 : (Named.named κ "neg_ln2" 0xBF317218#32 : Ideal .f32) = ((-Real.log 2 : ℝ) : EReal) :=
  IdealRules.named_const.ideal_named_scalar _ _ _ _ rfl

theorem named_score : (Named.named κ "score" 0x3E0293EE#32 : Ideal .f32) = (((Real.sqrt 128)⁻¹ * log2e : ℝ) : EReal) :=
  IdealRules.named_const.ideal_named_scalar _ _ _ _ rfl

theorem sub_apply (s : Fin 8) (t : Fin 256) : sub (ix2 s t) = BitVec.ofNat 32 s.val := by
  pointwise [sub]

theorem lane_apply (s : Fin 8) (t : Fin 256) : lane (ix2 s t) = BitVec.ofNat 32 (t.val % 128) := by
  pointwise [lane]
  revert t
  decide

/-- The diagonal's mask: row `v`'s key is before the query. -/
theorem mask_apply (v : Fin 16) (s : Fin 8) (t : Fin 256) :
    IntOp.cmpi .slt (IntOp.addi (IntOp.muli (BitVec.ofNat 32 s.val) 16#32) (BitVec.ofNat 32 v.val))
      (BitVec.ofNat 32 (t.val % 128)) = BitVec.ofBool (decide (16 * s.val + v.val < t.val % 128)) := by
  have hq : t.val % 128 < 128 := Nat.mod_lt _ (by omega)
  have ha : IntOp.addi (IntOp.muli (BitVec.ofNat 32 s.val) 16#32) (BitVec.ofNat 32 v.val) = BitVec.ofNat 32 (16 * s.val + v.val) := by
    revert s v; decide
  rw [ha]
  generalize t.val % 128 = q at hq
  have hb : 16 * s.val + v.val < 128 := by omega
  generalize 16 * s.val + v.val = a at hb
  by_cases h : a < q
  · rw [decide_eq_true h]
    show IntOp.cmpi .slt (BitVec.ofNat 32 a) (BitVec.ofNat 32 q) = 1#1
    clear ha
    word_omega
  · rw [decide_eq_false h]
    show IntOp.cmpi .slt (BitVec.ofNat 32 a) (BitVec.ofNat 32 q) = 0#1
    clear ha
    word_omega

section Column

variable (dots : FVec Ideal S128x256 .f32) (ks : Fin 16 → Vec Ideal S8x128 .f32) (qs : FVec Ideal S8x256 .f32)

theorem score_apply (v : Fin 16) (s : Fin 8) (t : Fin 256) :
    score dots ks qs v (ix2 s t)
      = dots (ix2 ⟨8 * v.val + s.val, by omega⟩ t) * ks v (ix2 s ⟨t.val % 128, by omega⟩) * qs (ix2 s t) := by
  pointwise [score]
  split
  · next h => simp only [Nat.mod_eq_of_lt h]
  · next h =>
    have : t.val % 128 = t.val - 128 := by omega
    simp only [this]

theorem softRow_apply (y : FVec Ideal S8x256 .f32) (s : Fin 8) (t : Fin 256) :
    softRow y (ix2 s t) = step (y (ix2 s t)) := by
  pointwise [softRow, log2es, named_clip, named_log2e, ofBits_oneUp]
  rfl

theorem zeros_apply (s : Fin 8) (t : Fin 256) : (zeros : FVec Ideal S8x256 .f32) (ix2 s t) = 0 := by
  pointwise [zeros]

variable (z : ℕ → ℝ) (r base : ℕ) (diag : Bool) (t : Fin 256)
  (hz : ∀ v s, score dots ks qs v (ix2 s t) = ((z (base + 16 * s.val + v.val) * log2e : ℝ) : EReal))
  (hdiag : diag = true → r = base + t.val % 128) (hoff : diag = false → base + 128 ≤ r)

include hz hdiag hoff

theorem masked_apply (v : Fin 16) (s : Fin 8) :
    masked dots ks qs diag v (ix2 s t)
      = if base + 16 * s.val + v.val < r then ((z (base + 16 * s.val + v.val) * log2e : ℝ) : EReal) else ⊥ := by
  cases diag with
  | false =>
    have := hoff rfl
    rw [if_pos (by omega), ← hz]
    rfl
  | true =>
    have := hdiag rfl
    rw [masked, cond_true]
    pointwise [named_mask, sub_apply, lane_apply, mask_apply, hz]
    by_cases h : 16 * s.val + v.val < t.val % 128
    · rw [if_pos h, if_pos (by omega)]
    · rw [if_neg h, if_neg (by omega)]

theorem soft_apply (v : Fin 16) (s : Fin 8) :
    soft dots ks qs diag v (ix2 s t) = span2 z r (base + 16 * s.val + v.val) (base + 16 * s.val + v.val + 1) := by
  have hm := masked_apply dots ks qs z r base diag t hz hdiag hoff v s
  rw [span2, span_one]
  cases diag with
  | false =>
    have := hoff rfl
    rw [if_pos (by omega)] at hm ⊢
    rw [soft, cond_false, softRow_apply, hm, step_scaled]
  | true =>
    rw [soft, cond_true]
    show max (softRow _ _) (zeros _) = _
    rw [softRow_apply, hm, zeros_apply]
    split
    · rw [step_scaled_max]
    · rw [step_bot_max]; simp

theorem acc_apply (n : ℕ) (hn : n ≤ 16) (s : Fin 8) :
    acc dots ks qs diag n (ix2 s t) = span2 z r (base + 16 * s.val + (16 - n)) (base + 16 * s.val + 16) := by
  induction n with
  | zero => rw [acc, zeros_apply, Nat.sub_zero, span2_self]
  | succ n ih =>
    show acc dots ks qs diag n (ix2 s t) + soft dots ks qs diag _ (ix2 s t) = _
    rw [ih (by omega), soft_apply dots ks qs z r base diag t hz hdiag hoff, add_comm]
    have hv : (Fin.ofNat 16 (15 - n)).val = 15 - n := by simp [Fin.ofNat]; omega
    rw [hv, show base + 16 * s.val + (15 - n) + 1 = base + 16 * s.val + (16 - n) by omega,
      span2_add z r (by omega) (by omega), show 16 - (n + 1) = 15 - n by omega]

end Column

/-- A step of the rotations: where every sublane holds the span of the `k` runs from its own, or to the chunk's end, it
    then holds that of `2 k`. -/
theorem shift_apply (k : ℕ) (hk : k = 1 ∨ k = 2 ∨ k = 4) (x : FVec Ideal S8x256 .f32) (z : ℕ → ℝ) (r base : ℕ) (t : Fin 256)
    (hx : ∀ s : Fin 8, x (ix2 s t) = span2 z r (base + 16 * s.val) (base + 16 * min (s.val + k) 8)) (s : Fin 8) :
    shift k x (ix2 s t) = span2 z r (base + 16 * s.val) (base + 16 * min (s.val + 2 * k) 8) := by
  have hc : IntOp.cmpi .slt (BitVec.ofNat 32 s.val) (BitVec.ofNat 32 (8 - k)) = BitVec.ofBool (decide (s.val + k < 8)) := by
    rcases hk with rfl | rfl | rfl <;> revert s <;> decide
  have hm : (BitVec.ofNat 32 (8 - k)).toNat % 8 = 8 - k := by
    rcases hk with rfl | rfl | rfl <;> rfl
  pointwise [shift, zeros_apply, sub_apply, hc]
  simp only [hx, hm]
  by_cases h : s.val + k < 8
  · rw [if_pos h]
    have e : (s.val + 8 - (8 - k)) % 8 = s.val + k := by omega
    rw [e, min_eq_left (by omega : s.val + k ≤ 8), span2_add z r (by omega) (by omega)]
    congr 3; omega
  · rw [if_neg h, add_zero, min_eq_right (by omega), min_eq_right (by omega)]

section Column

variable (dots : FVec Ideal S128x256 .f32) (ks : Fin 16 → Vec Ideal S8x128 .f32) (qs : FVec Ideal S8x256 .f32)
variable (z : ℕ → ℝ) (r base : ℕ) (diag : Bool) (t : Fin 256)
  (hz : ∀ v s, score dots ks qs v (ix2 s t) = ((z (base + 16 * s.val + v.val) * log2e : ℝ) : EReal))
  (hdiag : diag = true → r = base + t.val % 128) (hoff : diag = false → base + 128 ≤ r)

include hz hdiag hoff

theorem suffix_apply (s : Fin 8) :
    suffix dots ks qs diag (ix2 s t) = span2 z r (base + 16 * s.val) (base + 128) := by
  rw [suffix, shift_apply 4 (by omega) _ z r base t ?_ s, min_eq_right (by omega)]
  intro s
  rw [shift_apply 2 (by omega) _ z r base t ?_ s]
  intro s
  rw [shift_apply 1 (by omega) _ z r base t ?_ s]
  intro s
  rw [acc_apply dots ks qs z r base diag t hz hdiag hoff 16 le_rfl, min_eq_left (by omega)]
  congr 1

variable (e : ℕ) (he : base + 128 ≤ e) (carry : FVec Ideal S8x256 .f32)
  (hc : ∀ s, carry (ix2 s t) = span2 z r (base + 128) e)

include he hc

theorem carried_apply (s : Fin 8) : carried dots ks qs diag carry (ix2 s t) = span2 z r base e := by
  pointwise [carried, hc]
  rw [suffix_apply dots ks qs z r base diag t hz hdiag hoff, add_comm]
  exact span2_add z r (by simp) he

theorem offset_apply (s : Fin 8) :
    offset dots ks qs diag carry (ix2 s t) = span2 z r (base + 16 * s.val + 16) e := by
  pointwise [offset, hc]
  rw [suffix_apply dots ks qs z r base diag t hz hdiag hoff, acc_apply dots ks qs z r base diag t hz hdiag hoff 16 le_rfl,
    span2, span2, span2, span2, ← EReal.coe_sub, ← EReal.coe_add]
  congr 1
  rw [← span_add z r (show base + 16 * s.val ≤ base + 16 * s.val + 16 by omega) (show _ ≤ base + 128 by omega),
    ← span_add z r (show base + 16 * s.val + 16 ≤ base + 128 by omega) he]
  simp only [Nat.sub_self, add_zero]
  ring

theorem weights_apply (v : Fin 16) (s : Fin 8) :
    weights dots ks qs diag carry (ix2 ⟨8 * v.val + s.val, by omega⟩ t)
      = if base + 16 * s.val + v.val < r then
          ((Real.exp (z (base + 16 * s.val + v.val) - span z r (base + 16 * s.val + v.val) e) : ℝ) : EReal) else 0 := by
  refine (concatenate_ofFn_apply (t := S128x256) (s₁ := S8x256) 0 (fun v => exp2 (subf (rest dots ks qs diag v) (offset dots ks qs diag carry)))
    _ rfl 8 rfl _ v ?_ (ix2 s t) ?_ ?_).trans ?_
  · show (8 * v.val + s.val) / 8 = v.val
    omega
  · show s.val = (8 * v.val + s.val) % 8
    omega
  · intro b hb
    match b with
    | 0 => exact absurd rfl hb
    | 1 => rfl
  show Ideal.exp2 ((masked dots ks qs diag v (ix2 s t) - acc dots ks qs diag (16 - v.val) (ix2 s t))
    - offset dots ks qs diag carry (ix2 s t)) = _
  rw [masked_apply dots ks qs z r base diag t hz hdiag hoff, acc_apply dots ks qs z r base diag t hz hdiag hoff _ (by omega),
    offset_apply dots ks qs z r base diag t hz hdiag hoff e he carry hc, show 16 - (16 - v.val) = v.val by omega]
  split
  · rw [span2, span2, ← EReal.coe_sub, ← EReal.coe_sub, ← sub_mul, ← sub_mul, exp2_scaled, sub_sub,
      span_add z r (by omega) (by omega)]
  · rw [span2, span2, EReal.bot_sub, EReal.bot_sub, Ideal.exp2_bot]

end Column

end Cert.StickBreaking

end
-- ==== Proof.Chain.lean ====
/- A query block's chunks put together, at one query.

   The chunks are taken from the query's own down to the first, the carry being the span of the chunks behind. So over
   all of them the weight of key `j` is `exp (z j − span z r j 1024)`, and the log remainder is `−span z r 0 1024`. Inside
   a chunk the keys stand permuted: place `8 v + s` is key `16 s + v`. -/
module

public import proofs.«01_k».proof.Proof.Chunk

@[expose] public section

set_option maxRecDepth 16384

noncomputable section

namespace Cert.StickBreaking

open Idealize.ShloMosaic Idealize.SL.Sem Cert.KernelIdeal Cert.KernelIdeal.Gen

/-! ## Weights -/

/-- The weight of key `j` for the query at `r`. -/
def weight (z : ℕ → ℝ) (r j : ℕ) : EReal :=
  if j < r then ((Real.exp (z j - span z r j 1024) : ℝ) : EReal) else 0

/-- A span stops at the query. -/
theorem span_end (z : ℕ → ℝ) (r a : ℕ) {e : ℕ} (ha : a ≤ e) (hr : r ≤ e) (he : e ≤ 1024) :
    span z r a e = span z r a 1024 := by
  rw [← span_add z r ha he, left_eq_add]
  exact Finset.sum_eq_zero fun j hj => if_neg (by have := (Finset.mem_Ico.mp hj).1; omega)

/-! ## Places and keys -/

/-- The key at a place of a chunk. -/
def key (x : ℕ) : ℕ := 16 * (x % 8) + x / 8

theorem key_lt {x : ℕ} (hx : x < 128) : key x < 128 := by unfold key; omega

theorem key_mod {x : ℕ} (hx : x < 128) : key x % 16 = x / 8 := by unfold key; omega

theorem key_div {x : ℕ} (hx : x < 128) : key x / 16 = x % 8 := by unfold key; omega

/-- The keys, chunk by chunk and place by place. -/
def keys : Fin 8 × Fin 128 ≃ Fin 1024 where
  toFun p := ⟨128 * p.1.val + key p.2.val, by have := key_lt p.2.isLt; omega⟩
  invFun j := (⟨j.val / 128, by omega⟩, ⟨8 * (j.val % 16) + j.val % 128 / 16, by omega⟩)
  left_inv p := by
    have h := key_lt p.2.isLt
    have hm := key_mod p.2.isLt
    have hd := key_div p.2.isLt
    refine Prod.ext (Fin.ext ?_) (Fin.ext ?_)
    · show (128 * p.1.val + key p.2.val) / 128 = p.1.val
      omega
    · show 8 * ((128 * p.1.val + key p.2.val) % 16) + (128 * p.1.val + key p.2.val) % 128 / 16 = p.2.val
      have h1 : (128 * p.1.val + key p.2.val) % 16 = key p.2.val % 16 := by omega
      have h2 : (128 * p.1.val + key p.2.val) % 128 = key p.2.val := by omega
      rw [h1, h2]
      omega
  right_inv j := by
    refine Fin.ext ?_
    show 128 * (j.val / 128) + key (8 * (j.val % 16) + j.val % 128 / 16) = j.val
    have h1 : (8 * (j.val % 16) + j.val % 128 / 16) % 8 = j.val % 128 / 16 := by omega
    have h2 : (8 * (j.val % 16) + j.val % 128 / 16) / 8 = j.val % 16 := by omega
    rw [key, h1, h2]
    omega

theorem sum_keys (G : ℕ → EReal) :
    ∑ c ∈ Finset.range 8, ∑ x : Fin 128, G (128 * c + key x.val) = ∑ j : Fin 1024, G j.val := by
  rw [Finset.sum_range, ← Fintype.sum_prod_type' (f := fun (c : Fin 8) (x : Fin 128) => G (128 * c.val + key x.val))]
  exact Fintype.sum_equiv keys _ _ fun _ => rfl

/-- Columns are a head and a query of the block. -/
theorem dite_head {α : Type} (f : Fin 2 → Fin 128 → α) (t : Fin 256) (g : Fin 2) (q : Fin 128)
    (ht : t.val = 128 * g.val + q.val) :
    (if h : t.val < 128 then f 0 ⟨t.val, h⟩ else f 1 ⟨t.val - 128, by omega⟩) = f g q := by
  match g, ht with
  | 0, ht =>
    have ht : t.val = 128 * 0 + q.val := ht
    rw [dif_pos (by omega)]
    congr 1
    ext
    show t.val = q.val
    omega
  | 1, ht =>
    have ht : t.val = 128 * 1 + q.val := ht
    rw [dif_neg (by omega)]
    congr 1
    ext
    show t.val - 128 = q.val
    omega

section Block

variable (Q : Fin 8 → Fin 2 → Vec Ideal S1x128x128 .fp8e4m3) (QS : Fin 8 → Fin 2 → Vec Ideal S1x1x1x128 .f32)
  (K : Fin 8 → Vec Ideal S1x1x128x128 .fp8e4m3) (KS : Fin 8 → Fin 16 → Vec Ideal S8x128 .f32)
  (VT : Fin 8 → Vec Ideal S128x128 .bf16)

theorem scales_apply (n : Fin 8) (s : Fin 8) (t : Fin 256) (g : Fin 2) (q : Fin 128) (ht : t.val = 128 * g.val + q.val) :
    scales QS n (ix2 s t) = QS n g (ix4 0 0 0 q) := by
  pointwise [scales]
  exact dite_head (fun g q => QS n g (ix4 0 0 0 q)) t g q ht

theorem products_apply (n c : Fin 8) (x : Fin 128) (t : Fin 256) (g : Fin 2) (q : Fin 128) (ht : t.val = 128 * g.val + q.val) :
    products Q K n c (ix2 x t) = ∑ d : Fin 128, K c (ix4 0 0 x d) * Q n g (ix3 0 q d) := by
  pointwise [products, queries]
  refine Finset.sum_congr rfl fun d _ => ?_
  congr 1
  exact dite_head (fun g q => Q n g (ix3 0 q d)) t g q ht

variable (z : ℕ → ℝ) (n : Fin 8) (t : Fin 256)
  (hz : ∀ (c : Fin 8) (v : Fin 16) (s : Fin 8), score (products Q K n c) (KS c) (scales QS n) v (ix2 s t)
    = ((z (128 * c.val + 16 * s.val + v.val) * log2e : ℝ) : EReal))

theorem chunk_eq (k : ℕ) : chunk n k = ⟨n.val - k, by omega⟩ := by
  ext
  show (n.val - k) % 8 = n.val - k
  omega

include hz

theorem carry_apply (k : ℕ) (hk : k ≤ n.val + 1) (s : Fin 8) :
    carry Q QS K KS n k (ix2 s t)
      = span2 z (128 * n.val + t.val % 128) (128 * (n.val + 1 - k)) (128 * (n.val + 1)) := by
  induction k generalizing s with
  | zero => rw [carry, zeros_apply, Nat.sub_zero, span2_self]
  | succ k ih =>
    rw [carry, chunk_eq, carried_apply _ _ _ z (128 * n.val + t.val % 128) (128 * (n.val - k)) _ t
      (fun v s => hz _ v s) (fun h => ?_) (fun h => ?_) (128 * (n.val + 1)) (by omega) _
      (fun s => ?_), show n.val + 1 - (k + 1) = n.val - k by omega]
    · have := beq_iff_eq.mp h; omega
    · have := beq_eq_false_iff_ne.mp h; omega
    · rw [ih (by omega), show 128 * (n.val - k) + 128 = 128 * (n.val + 1 - k) by omega]

theorem lr_apply (s : Fin 8) :
    carry Q QS K KS n (n.val + 1) (ix2 s t) = span2 z (128 * n.val + t.val % 128) 0 1024 := by
  rw [carry_apply Q QS K KS z n t hz _ le_rfl, Nat.sub_self, span2, span2, span_end z _ _ (by omega) (by omega) (by omega)]

variable (vals : ℕ → EReal) (d : Fin 128)
  (hV : ∀ (c : Fin 8) (x : Fin 128), VT c (ix2 d x) = vals (128 * c.val + key x.val))

include hV

theorem contribution_apply (k : ℕ) (hk : k ≤ n.val) :
    contribution Q QS K KS VT n k (ix2 d t)
      = ∑ x : Fin 128, vals (128 * (n.val - k) + key x.val)
          * weight z (128 * n.val + t.val % 128) (128 * (n.val - k) + key x.val) := by
  pointwise [contribution]
  refine Finset.sum_congr rfl fun x _ => ?_
  rw [chunk_eq, hV]
  congr 1
  have hx : x = ⟨8 * (x.val / 8) + x.val % 8, by omega⟩ := by
    refine Fin.ext ?_
    show x.val = 8 * (x.val / 8) + x.val % 8
    omega
  have := weights_apply (products Q K n ⟨n.val - k, by omega⟩) (KS ⟨n.val - k, by omega⟩) (scales QS n) z
    (128 * n.val + t.val % 128) (128 * (n.val - k)) (k == 0) t
    (fun v s => hz _ v s)
    (fun h => by have := beq_iff_eq.mp h; omega) (fun h => by have := beq_eq_false_iff_ne.mp h; omega)
    (128 * (n.val + 1)) (by omega) (carry Q QS K KS n k)
    (fun s => by
      rw [carry_apply Q QS K KS z n t hz k (by omega), show 128 * (n.val - k) + 128 = 128 * (n.val + 1 - k) by omega])
    ⟨x.val / 8, by omega⟩ ⟨x.val % 8, by omega⟩
  rw [← hx] at this
  rw [this, weight, key, ← Nat.add_assoc]
  dsimp only
  split
  · rw [span_end z _ _ (by omega) (by omega) (by omega)]
  · rfl

theorem total_eq (k : ℕ) : total Q QS K KS VT n k (ix2 d t)
    = ∑ i ∈ Finset.range (k + 1), contribution Q QS K KS VT n i (ix2 d t) := by
  clear hz hV
  induction k with
  | zero => simp [total]
  | succ k ih =>
    rw [Finset.sum_range_succ, ← ih]
    rfl

theorem total_apply :
    total Q QS K KS VT n n.val (ix2 d t)
      = ∑ j : Fin 1024, vals j.val * weight z (128 * n.val + t.val % 128) j.val := by
  rw [total_eq Q QS K KS VT z n t hz vals d hV,
    ← sum_keys (fun j => vals j * weight z (128 * n.val + t.val % 128) j),
    ← Finset.sum_subset (Finset.range_subset_range.mpr (show n.val + 1 ≤ 8 by omega)) fun c _ hc => ?_,
    ← Finset.sum_range_reflect]
  · refine Finset.sum_congr rfl fun k hk => ?_
    have hk := Finset.mem_range.mp hk
    rw [contribution_apply Q QS K KS VT z n t hz vals d hV _ (by omega), show n.val - (n.val + 1 - 1 - k) = k by omega]
  · have hc : n.val + 1 ≤ c := by simpa using hc
    refine Finset.sum_eq_zero fun x _ => ?_
    rw [weight, if_neg (by omega), mul_zero]

end Block

end Cert.StickBreaking

end
-- ==== Proof.Loads.lean ====
/- The loads, at an index: out of the blocks a grid point is given. -/
module

public import proofs.«01_k».proof.Proof.Body
public import proofs.«01_k».proof.Proof.Chunk
public import Idealize.ShloMosaic.Lib.Pipeline.ValueKit.Tiles
public import Idealize.ShloMosaic.Lib.Pipeline.ValueKit.Basic

@[expose] public section

set_option maxRecDepth 16384

noncomputable section

namespace Cert.StickBreaking

open Idealize.ShloMosaic Idealize.SL.Sem Cert.KernelIdeal Cert.KernelIdeal.Gen

section Run

variable
  (arg2 : Memref sig .tc .vmem S1x1024x256 .fp8e4m3) (harg2 : arg2.IsWhole)
  (arg3 : Memref sig .tc .vmem S1x1x1024x128 .fp8e4m3) (harg3 : arg3.IsWhole)
  (arg4 : Memref sig .tc .vmem S1x1x128x1024 .fp8e4m3) (harg4 : arg4.IsWhole)
  (arg5 : Memref sig .tc .vmem S1x1x2x1024 .f32) (harg5 : arg5.IsWhole)
  (arg6 : Memref sig .tc .vmem S1x1x1024x1 .f32) (harg6 : arg6.IsWhole)
  (arg7 : Memref sig .tc .vmem S1x1x1x1024 .f32) (harg7 : arg7.IsWhole)
  (arg10 : Memref sig .tc .vmem S1024x128 .f32) (arg11 : Memref sig .tc .vmem S128x1024 .bf16)
  (x0 : Vec Ideal S1x1024x256 .fp8e4m3) (x1 : Vec Ideal S1x1x1024x128 .fp8e4m3) (x2 : Vec Ideal S1x1x128x1024 .fp8e4m3)
  (x3 : Vec Ideal S1x1x2x1024 .f32) (x4 : Vec Ideal S1x1x1024x1 .f32) (x5 : Vec Ideal S1x1x1x1024 .f32)

theorem loadQ_apply (n : Fin 8) (g : Fin 2) (q d : Fin 128) :
    loadQ arg2 harg2 x0 n g (ix3 0 q d) = x0 (ix3 0 ⟨128 * n.val + q.val, by omega⟩ ⟨128 * g.val + d.val, by omega⟩) := by
  rw [loadQ, View.readAt_eq_ld, harg2.read_unread]
  refine View.ld_unit_apply_of x0 _ _ _ _ _ fun a => ?_
  fin_cases a <;> rfl

theorem loadK_apply (n : Fin 8) (x d : Fin 128) :
    loadK arg3 harg3 x1 n (ix4 0 0 x d) = x1 (ix4 0 0 ⟨128 * n.val + x.val, by omega⟩ d) := by
  rw [loadK, View.readAt_eq_ld, harg3.read_unread]
  refine View.ld_unit_apply_of x1 _ _ _ _ _ fun a => ?_
  fin_cases a
  · rfl
  · rfl
  · rfl
  · show d.val = 0 + d.val
    omega

theorem loadQS_apply (n : Fin 8) (g : Fin 2) (q : Fin 128) :
    loadQS arg5 harg5 x3 n g (ix4 0 0 0 q) = x3 (ix4 0 0 g ⟨128 * n.val + q.val, by omega⟩) := by
  rw [loadQS, View.readAt_eq_ld, harg5.read_unread]
  refine View.ld_unit_apply_of x3 _ _ _ _ _ fun a => ?_
  fin_cases a <;> rfl

theorem loadKS_apply (n : Fin 8) (v : Fin 16) (s : Fin 8) (t : Fin 128) :
    loadKS arg6 harg6 arg10 x4 n v (ix2 s t)
      = x4 (ix4 0 0 ⟨128 * n.val + 8 * v.val + s.val, by omega⟩ 0) * (((Real.sqrt 128)⁻¹ * log2e : ℝ) : EReal) := by
  rw [loadKS, View.readCov_eq_canon', View.canon_cons_unit_lit _ _ _ (by decide), View.readAt_eq_ld, harg6.read_unread]
  rw [View.ld_unit_lit _ x4 (by decide)]
  show k0_pay4 x4 ((Rect.unit (s := S1024x128) ![128 * n.val + 8 * v.val, 0] S8x128.size (inb_ks n v)).idx (ix2 s t)) = _
  rw [show (Rect.unit (s := S1024x128) ![128 * n.val + 8 * v.val, 0] S8x128.size (inb_ks n v)).idx (ix2 s t)
      = ix2 ⟨128 * n.val + 8 * v.val + s.val, by omega⟩ t from funext fun a => Fin.ext ((Rect.idx_unit_val _ _ _ _ a).trans (by
        fin_cases a
        · rfl
        · show 0 + t.val = t.val
          omega))]
  pointwise [k0_pay4, named_score]

theorem loadVT_apply (n : Fin 8) (d x : Fin 128) :
    loadVT arg4 harg4 arg7 harg7 arg11 x2 x5 n (ix2 d x)
      = x2 (ix4 0 0 d ⟨128 * n.val + x.val, by omega⟩) * x5 (ix4 0 0 0 ⟨128 * n.val + x.val, by omega⟩) := by
  rw [loadVT, View.readCov_eq_canon', View.canon_cons_unit_lit _ _ _ (by decide), View.readAt_eq_ld, View.readAt_eq_ld, harg4.read_unread,
    harg7.read_unread]
  rw [View.ld_unit_lit _ x2 (by decide), View.ld_unit_lit _ x5 (by decide)]
  show k0_pay5 x2 x5 ((Rect.unit (s := S128x1024) ![0, 128 * n.val] S128x128.size (inb_vt n)).idx (ix2 d x)) = _
  rw [show (Rect.unit (s := S128x1024) ![0, 128 * n.val] S128x128.size (inb_vt n)).idx (ix2 d x)
      = ix2 d ⟨128 * n.val + x.val, by omega⟩ from funext fun a => Fin.ext ((Rect.idx_unit_val _ _ _ _ a).trans (by
        fin_cases a
        · show 0 + d.val = d.val
          omega
        · rfl))]
  pointwise [k0_pay5]

end Run

end Cert.StickBreaking

end
-- ==== Proof.Scores.lean ====
/- The attention's arguments, and its scores as real numbers.

   Heads come in pairs: head `g` of the pair over key head `h` is head `2 h + g`. Where the codes and scales of the queries
   and of the keys are real, which is what the precondition says, so are the scores. -/
module

public import proofs.«01_k».proof.Proof.Gen.KernelIdeal
public import proofs.«01_k».proof.Proof.Gen.Pre_finite
public import proofs.«01_k».proof.Proof.Softplus
public import Idealize.ShloMosaic.Lib.Pointwise

@[expose] public section

noncomputable section

namespace Cert.StickBreaking

open Idealize.ShloMosaic Cert.KernelIdeal

/-- Head `g` of the pair over key head `h`. -/
def pair (h : Fin 8) (g : Fin 2) : Fin 16 := ⟨h.val * 2 + g.val, by omega⟩

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- Every element is a real number. -/
def IsReal {s : Shape} (x : FVec Ideal s .f32) : Prop := ∀ i, ((EReal.toReal (x i) : ℝ) : EReal) = x i

theorem isReal_of_finite {s : Shape} (x y : FVec Ideal s .f32) (hy : ∀ i, y i = (0 : EReal))
    (h : cmpf .oeq (subf x x) y = fun _ => 1#1) : IsReal x := by
  intro i
  have h : BitVec.ofBool (decide ((x i - x i : EReal) = y i)) = 1#1 := congrFun h i
  rw [hy i] at h
  have e : (x i - x i : EReal) = 0 := by
    by_contra hne
    rw [decide_eq_false hne] at h
    exact absurd h (by decide)
  apply EReal.coe_toReal
  · intro ht
    rw [ht] at e
    exact absurd e (by simp)
  · intro hb
    rw [hb] at e
    exact absurd e (by simp)

section Arguments

variable (x0 : FVec Ideal S2x1024x16x128 .f32) (x1 : FVec Ideal S2x1024x16 .f32) (x2 : FVec Ideal S2x1024x8x128 .f32)
  (x3 : FVec Ideal S2x1024x8 .f32)

/-- The precondition. -/
structure Finite : Prop where
  queries : IsReal x0
  queryScales : IsReal x1
  keys : IsReal x2
  keyScales : IsReal x3

theorem finite_of_pre (x4 : FVec Ideal S2x1024x8x128 .f32) (x5 : FVec Ideal S2x1024x8 .f32)
    (h0 : (Cert.Pre_finite.fn (F := Ideal) x0 x1 x2 x3 x4 x5).1 = fun _ => 1#1)
    (h1 : (Cert.Pre_finite.fn (F := Ideal) x0 x1 x2 x3 x4 x5).2.1 = fun _ => 1#1)
    (h2 : (Cert.Pre_finite.fn (F := Ideal) x0 x1 x2 x3 x4 x5).2.2.1 = fun _ => 1#1)
    (h3 : (Cert.Pre_finite.fn (F := Ideal) x0 x1 x2 x3 x4 x5).2.2.2 = fun _ => 1#1) : Finite x0 x1 x2 x3 where
  queries := isReal_of_finite x0 _ (fun _ => Ideal.ofBits_zero _) h0
  queryScales := isReal_of_finite x1 _ (fun _ => Ideal.ofBits_zero _) h1
  keys := isReal_of_finite x2 _ (fun _ => Ideal.ofBits_zero _) h2
  keyScales := isReal_of_finite x3 _ (fun _ => Ideal.ofBits_zero _) h3

/-- The products of a query's codes with key `j`'s. -/
def realDot (b : Fin 2) (h : Fin 8) (g : Fin 2) (q j : Fin 1024) : ℝ :=
  ∑ d : Fin 128, EReal.toReal (x2 (ix4 b j h d)) * EReal.toReal (x0 (ix4 b q (pair h g) d))

/-- The score of a query against key `j`. -/
def realScore (b : Fin 2) (h : Fin 8) (g : Fin 2) (q : Fin 1024) (j : ℕ) : ℝ :=
  if hj : j < 1024 then
    realDot x0 x2 b h g q ⟨j, hj⟩
      * (EReal.toReal (x1 (ix3 b q (pair h g))) * EReal.toReal (x3 (ix3 b ⟨j, hj⟩ h))) * (Real.sqrt 128)⁻¹
  else 0

variable (hf : Finite x0 x1 x2 x3)

include hf

theorem dot_eq (b : Fin 2) (h : Fin 8) (g : Fin 2) (q j : Fin 1024) :
    ∑ d : Fin 128, x2 (ix4 b j h d) * x0 (ix4 b q (pair h g) d) = ((realDot x0 x2 b h g q j : ℝ) : EReal) := by
  rw [realDot, coe_sum]
  refine Finset.sum_congr rfl fun d _ => ?_
  rw [EReal.coe_mul, hf.keys, hf.queries]

end Arguments

end Cert.StickBreaking

end
-- ==== Proof.Host.lean ====
/- What the kernel is given: the arguments, laid out anew on the host.

   The keys of a chunk of 128 are dealt out: place `x` of the chunk holds key `16 (x mod 8) + x / 8`. -/
module

public import proofs.«01_k».proof.Proof.Gen.KernelIdeal.Value
public import proofs.«01_k».proof.Proof.Scores
public import Idealize.ShloMosaic.Lib.StableHlo.ReadAt
public import Idealize.ShloMosaic.Lib.Pointwise

@[expose] public section

set_option maxRecDepth 16384

noncomputable section

namespace Cert.StickBreaking

open Idealize.ShloMosaic Idealize.SL.Sem Cert.KernelIdeal Cert.KernelIdeal.Gen Idealize.ShloMosaic.TcCoe

/-- The key at a place. -/
def place (x : Fin 1024) : Fin 1024 := ⟨x.val / 128 * 128 + x.val % 8 * 16 + x.val / 8 % 16, by omega⟩

variable (m : (ℓ : Loc nD τ sig) → Buf (Elt Ideal) ℓ) (c : Dev nD)

theorem host_queries (b : Fin 2) (x : Fin 1024) (h : Fin 8) (g : Fin 2) (d : Fin 128) :
    (V m c main_v3 : FVec Ideal S2x1024x2048 .fp8e4m3) (ix3 b x ⟨256 * h.val + 128 * g.val + d.val, by omega⟩)
      = (m (c, Proc.tc.devRef main_arg0) : FVec Ideal S2x1024x16x128 .f32) (ix4 b x (pair h g) d) := by
  unfold V
  after_reads_at
  rw [show (⟨(256 * h.val + 128 * g.val + d.val) / 128, by omega⟩ : Fin 16) = pair h g from
    Fin.ext (show (256 * h.val + 128 * g.val + d.val) / 128 = h.val * 2 + g.val by omega)]

theorem host_keys (b : Fin 2) (h : Fin 8) (x : Fin 1024) (d : Fin 128) :
    (V m c main_v7 : FVec Ideal S2x8x1024x128 .fp8e4m3) (ix4 b h x d)
      = (m (c, Proc.tc.devRef main_arg2) : FVec Ideal S2x1024x8x128 .f32) (ix4 b (place x) h d) := by
  unfold V
  after_reads_at
  rfl

theorem host_values (b : Fin 2) (h : Fin 8) (x : Fin 1024) (d : Fin 128) :
    (V m c main_v12 : FVec Ideal S2x8x128x1024 .fp8e4m3) (ix4 b h d x)
      = (m (c, Proc.tc.devRef main_arg4) : FVec Ideal S2x1024x8x128 .f32) (ix4 b (place x) h d) := by
  unfold V
  after_reads_at
  rfl

theorem host_valueScales (b : Fin 2) (h : Fin 8) (x : Fin 1024) :
    (V m c main_v17 : FVec Ideal S2x8x1x1024 .f32) (ix4 b h 0 x)
      = (m (c, Proc.tc.devRef main_arg5) : FVec Ideal S2x1024x8 .f32) (ix3 b (place x) h) := by
  unfold V
  after_reads_at
  rfl

theorem host_keyScales (b : Fin 2) (h : Fin 8) (x : Fin 1024) :
    (V m c main_v22 : FVec Ideal S2x8x1024x1 .f32) (ix4 b h x 0)
      = (m (c, Proc.tc.devRef main_arg3) : FVec Ideal S2x1024x8 .f32) (ix3 b (place x) h) := by
  unfold V
  after_reads_at
  rfl

theorem host_queryScales (b : Fin 2) (h : Fin 8) (g : Fin 2) (x : Fin 1024) :
    (V m c main_v24 : FVec Ideal S2x8x2x1024 .f32) (ix4 b h g x)
      = (m (c, Proc.tc.devRef main_arg1) : FVec Ideal S2x1024x16 .f32) (ix3 b x (pair h g)) := by
  unfold V
  after_reads_at
  rfl

end Cert.StickBreaking

end
-- ==== Proof.Point.lean ====
/- One grid point: what it stores, given blocks that hold a batch's and a key head's part of the arguments. -/
module

public import proofs.«01_k».proof.Proof.Chain
public import proofs.«01_k».proof.Proof.Loads
public import proofs.«01_k».proof.Proof.Host

@[expose] public section

set_option maxRecDepth 16384

noncomputable section

namespace Cert.StickBreaking

open Idealize.ShloMosaic Idealize.SL.Sem Cert.KernelIdeal Cert.KernelIdeal.Gen

theorem place_row (n : Fin 8) (v : Fin 16) (s : Fin 8) :
    (place ⟨128 * n.val + 8 * v.val + s.val, by omega⟩).val = 128 * n.val + 16 * s.val + v.val := by
  show (128 * n.val + 8 * v.val + s.val) / 128 * 128 + (128 * n.val + 8 * v.val + s.val) % 8 * 16
    + (128 * n.val + 8 * v.val + s.val) / 8 % 16 = _
  omega

theorem place_key (n : Fin 8) (x : Fin 128) :
    (place ⟨128 * n.val + x.val, by omega⟩).val = 128 * n.val + key x.val := by
  show (128 * n.val + x.val) / 128 * 128 + (128 * n.val + x.val) % 8 * 16 + (128 * n.val + x.val) / 8 % 16
    = 128 * n.val + (16 * (x.val % 8) + x.val / 8)
  omega

section Given

variable (a0 : FVec Ideal S2x1024x16x128 .f32) (a1 : FVec Ideal S2x1024x16 .f32) (a2 : FVec Ideal S2x1024x8x128 .f32)
  (a3 : FVec Ideal S2x1024x8 .f32) (a4 : FVec Ideal S2x1024x8x128 .f32) (a5 : FVec Ideal S2x1024x8 .f32)
  (b : Fin 2) (h : Fin 8)
  (x0 : Vec Ideal S1x1024x256 .fp8e4m3) (x1 : Vec Ideal S1x1x1024x128 .fp8e4m3) (x2 : Vec Ideal S1x1x128x1024 .fp8e4m3)
  (x3 : Vec Ideal S1x1x2x1024 .f32) (x4 : Vec Ideal S1x1x1024x1 .f32) (x5 : Vec Ideal S1x1x1x1024 .f32)

/-- The blocks of batch `b` and key head `h`. -/
structure Blocks : Prop where
  queries : ∀ (x : Fin 1024) (g : Fin 2) (d : Fin 128), x0 (ix3 0 x ⟨128 * g.val + d.val, by omega⟩) = a0 (ix4 b x (pair h g) d)
  keys : ∀ (x : Fin 1024) (d : Fin 128), x1 (ix4 0 0 x d) = a2 (ix4 b (place x) h d)
  values : ∀ (x : Fin 1024) (d : Fin 128), x2 (ix4 0 0 d x) = a4 (ix4 b (place x) h d)
  queryScales : ∀ (g : Fin 2) (x : Fin 1024), x3 (ix4 0 0 g x) = a1 (ix3 b x (pair h g))
  keyScales : ∀ x : Fin 1024, x4 (ix4 0 0 x 0) = a3 (ix3 b (place x) h)
  valueScales : ∀ x : Fin 1024, x5 (ix4 0 0 0 x) = a5 (ix3 b (place x) h)

variable (hf : Finite a0 a1 a2 a3) (hb : Blocks a0 a1 a2 a3 a4 a5 b h x0 x1 x2 x3 x4 x5)
  (arg2 : Memref sig .tc .vmem S1x1024x256 .fp8e4m3) (harg2 : arg2.IsWhole)
  (arg3 : Memref sig .tc .vmem S1x1x1024x128 .fp8e4m3) (harg3 : arg3.IsWhole)
  (arg4 : Memref sig .tc .vmem S1x1x128x1024 .fp8e4m3) (harg4 : arg4.IsWhole)
  (arg5 : Memref sig .tc .vmem S1x1x2x1024 .f32) (harg5 : arg5.IsWhole)
  (arg6 : Memref sig .tc .vmem S1x1x1024x1 .f32) (harg6 : arg6.IsWhole)
  (arg7 : Memref sig .tc .vmem S1x1x1x1024 .f32) (harg7 : arg7.IsWhole)
  (arg10 : Memref sig .tc .vmem S1024x128 .f32) (arg11 : Memref sig .tc .vmem S128x1024 .bf16)

/-- The values of a key head, along one dimension. -/
def valueAt (d : Fin 128) (j : ℕ) : EReal :=
  if hj : j < 1024 then a4 (ix4 b ⟨j, hj⟩ h d) * a5 (ix3 b ⟨j, hj⟩ h) else 0

include hf hb

/-- The scores the body takes are the real ones, in base 2. -/
theorem score_eq (n : Fin 8) (g : Fin 2) (q : Fin 128) (t : Fin 256) (ht : t.val = 128 * g.val + q.val) (c : Fin 8)
    (v : Fin 16) (s : Fin 8) :
    score (products (loadQ arg2 harg2 x0) (loadK arg3 harg3 x1) n c) (loadKS arg6 harg6 arg10 x4 c)
        (scales (loadQS arg5 harg5 x3) n) v (ix2 s t)
      = ((realScore a0 a1 a2 a3 b h g ⟨128 * n.val + q.val, by omega⟩ (128 * c.val + 16 * s.val + v.val) * log2e : ℝ) : EReal) := by
  rw [score_apply, products_apply _ _ n c _ t g q ht, scales_apply _ n s t g q ht, loadKS_apply, loadQS_apply, hb.keyScales,
    hb.queryScales]
  have e : ∀ d : Fin 128, loadK arg3 harg3 x1 c (ix4 0 0 ⟨8 * v.val + s.val, by omega⟩ d) * loadQ arg2 harg2 x0 n g (ix3 0 q d)
      = a2 (ix4 b (place ⟨128 * c.val + 8 * v.val + s.val, by omega⟩) h d) * a0 (ix4 b ⟨128 * n.val + q.val, by omega⟩ (pair h g) d) := by
    intro d
    rw [loadK_apply, loadQ_apply, hb.keys, hb.queries]
    simp only [Nat.add_assoc]
  rw [Finset.sum_congr rfl fun d _ => e d, dot_eq a0 a1 a2 a3 hf, ← hf.keyScales, ← hf.queryScales,
    ← EReal.coe_mul, ← EReal.coe_mul, ← EReal.coe_mul]
  have p : place ⟨128 * c.val + 8 * v.val + s.val, by omega⟩ = ⟨128 * c.val + 16 * s.val + v.val, by omega⟩ :=
    Fin.ext (place_row c v s)
  rw [realScore, dif_pos (by omega), p]
  congr 1
  ring

theorem lrPiece_eq (n : Fin 8) (g : Fin 2) (q : Fin 128) :
    lrPiece (loadQ arg2 harg2 x0) (loadQS arg5 harg5 x3) (loadK arg3 harg3 x1) (loadKS arg6 harg6 arg10 x4) n g (ix4 0 0 0 q)
      = ((-span (realScore a0 a1 a2 a3 b h g ⟨128 * n.val + q.val, by omega⟩) (128 * n.val + q.val) 0 1024 : ℝ) : EReal) := by
  have e := lr_apply (loadQ arg2 harg2 x0) (loadQS arg5 harg5 x3) (loadK arg3 harg3 x1) (loadKS arg6 harg6 arg10 x4)
    (realScore a0 a1 a2 a3 b h g ⟨128 * n.val + q.val, by omega⟩) n ⟨128 * g.val + q.val, by omega⟩
    (fun c v s => score_eq a0 a1 a2 a3 a4 a5 b h x0 x1 x2 x3 x4 x5 hf hb arg2 harg2 arg3 harg3 arg5 harg5 arg6 harg6 arg10
      n g q _ rfl c v s) 0
  rw [show (128 * g.val + q.val) % 128 = q.val by omega] at e
  pointwise [lrPiece, named_neg_ln2, e]
  rw [span2, ← EReal.coe_mul]
  congr 1
  linear_combination -span (realScore a0 a1 a2 a3 b h g ⟨128 * n.val + q.val, by omega⟩) (128 * n.val + q.val) 0 1024 * log2_mul_log2e

theorem outPiece_eq (n : Fin 8) (g : Fin 2) (q d : Fin 128) :
    outPiece (loadQ arg2 harg2 x0) (loadQS arg5 harg5 x3) (loadK arg3 harg3 x1) (loadKS arg6 harg6 arg10 x4)
        (loadVT arg4 harg4 arg7 harg7 arg11 x2 x5) n g (ix3 0 q d)
      = ∑ k : Fin 1024, a4 (ix4 b k h d) * a5 (ix3 b k h)
          * weight (realScore a0 a1 a2 a3 b h g ⟨128 * n.val + q.val, by omega⟩) (128 * n.val + q.val) k.val := by
  have e := total_apply (loadQ arg2 harg2 x0) (loadQS arg5 harg5 x3) (loadK arg3 harg3 x1) (loadKS arg6 harg6 arg10 x4)
    (loadVT arg4 harg4 arg7 harg7 arg11 x2 x5)
    (realScore a0 a1 a2 a3 b h g ⟨128 * n.val + q.val, by omega⟩) n ⟨128 * g.val + q.val, by omega⟩
    (fun c v s => score_eq a0 a1 a2 a3 a4 a5 b h x0 x1 x2 x3 x4 x5 hf hb arg2 harg2 arg3 harg3 arg5 harg5 arg6 harg6 arg10
      n g q _ rfl c v s)
    (valueAt a4 a5 b h d) d (fun c x => by
      have p : place ⟨128 * c.val + x.val, by omega⟩ = ⟨128 * c.val + key x.val, by have := key_lt x.isLt; omega⟩ :=
        Fin.ext (place_key c x)
      rw [loadVT_apply, hb.values, hb.valueScales, p, valueAt, dif_pos])
  rw [show (128 * g.val + q.val) % 128 = q.val by omega] at e
  pointwise [outPiece, e]
  refine Finset.sum_congr rfl fun k _ => ?_
  rw [valueAt, dif_pos k.isLt]

end Given

end Cert.StickBreaking

end
-- ==== Proof.Stored.lean ====
/- What a grid point leaves in its two output blocks: its pieces tile them, one piece to a query block and a head. -/
module

public import proofs.«01_k».proof.Proof.Point

@[expose] public section

set_option maxRecDepth 16384

noncomputable section

namespace Cert.StickBreaking

open Idealize.ShloMosaic Idealize.SL.Sem Cert.KernelIdeal Cert.KernelIdeal.Gen

section Given

variable (a0 : FVec Ideal S2x1024x16x128 .f32) (a1 : FVec Ideal S2x1024x16 .f32) (a2 : FVec Ideal S2x1024x8x128 .f32)
  (a3 : FVec Ideal S2x1024x8 .f32) (a4 : FVec Ideal S2x1024x8x128 .f32) (a5 : FVec Ideal S2x1024x8 .f32)
  (b : Fin 2) (h : Fin 8)
  (x0 : Vec Ideal S1x1024x256 .fp8e4m3) (x1 : Vec Ideal S1x1x1024x128 .fp8e4m3) (x2 : Vec Ideal S1x1x128x1024 .fp8e4m3)
  (x3 : Vec Ideal S1x1x2x1024 .f32) (x4 : Vec Ideal S1x1x1024x1 .f32) (x5 : Vec Ideal S1x1x1x1024 .f32)
  (hf : Finite a0 a1 a2 a3) (hb : Blocks a0 a1 a2 a3 a4 a5 b h x0 x1 x2 x3 x4 x5)
  (c : Dev nD) (i : grid0.Coords)
  (arg2 : Memref sig .tc .vmem S1x1024x256 .fp8e4m3) (harg2 : arg2.IsWhole)
  (arg3 : Memref sig .tc .vmem S1x1x1024x128 .fp8e4m3) (harg3 : arg3.IsWhole)
  (arg4 : Memref sig .tc .vmem S1x1x128x1024 .fp8e4m3) (harg4 : arg4.IsWhole)
  (arg5 : Memref sig .tc .vmem S1x1x2x1024 .f32) (harg5 : arg5.IsWhole)
  (arg6 : Memref sig .tc .vmem S1x1x1024x1 .f32) (harg6 : arg6.IsWhole)
  (arg7 : Memref sig .tc .vmem S1x1x1x1024 .f32) (harg7 : arg7.IsWhole)
  (arg8 : Memref sig .tc .vmem S1x1024x256 .bf16) (harg8 : arg8.IsWhole)
  (arg9 : Memref sig .tc .vmem S1x1x2x1024 .f32) (harg9 : arg9.IsWhole)
  (arg10 : Memref sig .tc .vmem S1024x128 .f32) (harg10 : arg10.IsWhole)
  (arg11 : Memref sig .tc .vmem S128x1024 .bf16) (harg11 : arg11.IsWhole)

/-- Some piece is of the block and the head asked for. -/
theorem piece_of (n : Fin 8) (g : Fin 2) : ∃ k : Fin 16, blockOf k = n ∧ headOf k = g := by
  revert n g; decide

include hf hb

theorem stored_lr (g : Fin 2) (q : Fin 1024) :
    out0_A_7 c i arg2 harg2 arg3 harg3 arg4 harg4 arg5 harg5 arg6 harg6 arg7 harg7 arg8 harg8 arg9 harg9
        arg10 harg10 arg11 harg11 x0 x1 x2 x3 x4 x5 (ix4 0 0 g q)
      = ((-span (realScore a0 a1 a2 a3 b h g q) q.val 0 1024 : ℝ) : EReal) := by
  rw [out0_A_7, body_lr, View.read_writes_junk_apply_eq_canon, lrPieces]
  refine View.canon_ofFn_unit_eq_of_forall _ _ _ _ _ _ ?_ fun k => ?_
  · obtain ⟨k, hn, hg⟩ := piece_of ⟨q.val / 128, by omega⟩ g
    refine ⟨k, fun a => ?_⟩
    rw [hn, hg]
    fin_cases a
    · exact ⟨le_rfl, Nat.one_pos⟩
    · exact ⟨le_rfl, Nat.one_pos⟩
    · exact ⟨le_rfl, Nat.lt_succ_self _⟩
    · show 128 * (q.val / 128) ≤ q.val ∧ q.val < 128 * (q.val / 128) + 128
      omega
  · intro x hx
    have h2 : g.val = (headOf k).val + (x 2).val := hx 2
    have h3 : q.val = 128 * (blockOf k).val + (x 3).val := hx 3
    have e0 : x 0 = (0 : Fin 1) := Subsingleton.elim (α := Fin 1) _ _
    have e1 : x 1 = (0 : Fin 1) := Subsingleton.elim (α := Fin 1) _ _
    have e2 : x 2 = (0 : Fin 1) := Subsingleton.elim (α := Fin 1) _ _
    have l3 : (x 3).val < 128 := (x 3).isLt
    have hg : headOf k = g := by
      rw [e2] at h2
      exact Fin.ext h2.symm
    have hq : (⟨128 * (blockOf k).val + (x 3).val, by omega⟩ : Fin 1024) = q := Fin.ext h3.symm
    rw [eq_ix4 x, e0, e1, e2, hg]
    refine (lrPiece_eq a0 a1 a2 a3 a4 a5 b h x0 x1 x2 x3 x4 x5 hf hb arg2 harg2 arg3 harg3 arg5 harg5 arg6 harg6 arg10
      (blockOf k) g ⟨(x 3).val, l3⟩).trans ?_
    dsimp only
    rw [hq, ← h3]

theorem stored_out (q : Fin 1024) (g : Fin 2) (d : Fin 128) :
    out0_A_6 c i arg2 harg2 arg3 harg3 arg4 harg4 arg5 harg5 arg6 harg6 arg7 harg7 arg8 harg8 arg9 harg9
        arg10 harg10 arg11 harg11 x0 x1 x2 x3 x4 x5 (ix3 0 q ⟨128 * g.val + d.val, by omega⟩)
      = ∑ k : Fin 1024, a4 (ix4 b k h d) * a5 (ix3 b k h) * weight (realScore a0 a1 a2 a3 b h g q) q.val k.val := by
  rw [out0_A_6, body_out, View.read_writes_junk_apply_eq_canon, outPieces]
  refine View.canon_ofFn_unit_eq_of_forall _ _ _ _ _ _ ?_ fun k => ?_
  · obtain ⟨k, hn, hg⟩ := piece_of ⟨q.val / 128, by omega⟩ g
    refine ⟨k, fun a => ?_⟩
    rw [hn, hg]
    fin_cases a
    · exact ⟨le_rfl, Nat.one_pos⟩
    · show 128 * (q.val / 128) ≤ q.val ∧ q.val < 128 * (q.val / 128) + 128
      omega
    · show 128 * g.val ≤ 128 * g.val + d.val ∧ 128 * g.val + d.val < 128 * g.val + 128
      omega
  · intro x hx
    have h1 : q.val = 128 * (blockOf k).val + (x 1).val := hx 1
    have h2 : 128 * g.val + d.val = 128 * (headOf k).val + (x 2).val := hx 2
    have e0 : x 0 = (0 : Fin 1) := Subsingleton.elim (α := Fin 1) _ _
    have l1 : (x 1).val < 128 := (x 1).isLt
    have l2 : (x 2).val < 128 := (x 2).isLt
    have hg : headOf k = g := Fin.ext (by omega)
    have hd : (⟨(x 2).val, l2⟩ : Fin 128) = d := Fin.ext (show (x 2).val = d.val by omega)
    have hq : (⟨128 * (blockOf k).val + (x 1).val, by omega⟩ : Fin 1024) = q := Fin.ext h1.symm
    rw [eq_ix3 x, e0, hg]
    refine (outPiece_eq a0 a1 a2 a3 a4 a5 b h x0 x1 x2 x3 x4 x5 hf hb arg2 harg2 arg3 harg3 arg4 harg4 arg5 harg5 arg6 harg6
      arg7 harg7 arg10 arg11 (blockOf k) g ⟨(x 1).val, l1⟩ ⟨(x 2).val, l2⟩).trans ?_
    dsimp only
    rw [hd, hq, ← h1]

end Given

end Cert.StickBreaking

end
-- ==== Proof.Reference.lean ====
/- The reference, at an index: its scores are the real scores, the softplus summed from a key on is the span to the end,
   and so the output is the sum of the values by their weights and the log remainder minus the whole span. -/
module

public import proofs.«01_k».proof.Proof.Gen.ReferenceIdeal.Read
public import proofs.«01_k».proof.Proof.Scores
public import proofs.«01_k».proof.Proof.Chain

@[expose] public section

set_option maxRecDepth 16384

noncomputable section

namespace Cert.StickBreaking

open Idealize.ShloMosaic Cert.ReferenceIdeal Cert.ReferenceIdeal.Gen Cert.ReferenceIdeal.Read

/-- Positions compare as numbers. -/
theorem cmpi_slt_pos (a c : Fin 1024) :
    IntOp.cmpi .slt (BitVec.ofNat 32 a.val) (BitVec.ofNat 32 c.val) = BitVec.ofBool (decide (a.val < c.val)) := by
  by_cases h : a.val < c.val
  · rw [decide_eq_true h]
    show _ = 1#1
    word_omega
  · rw [decide_eq_false h]
    show _ = 0#1
    word_omega

theorem cmpi_sge_pos (a c : Fin 1024) :
    IntOp.cmpi .sge (BitVec.ofNat 32 a.val) (BitVec.ofNat 32 c.val) = BitVec.ofBool (decide (c.val ≤ a.val)) := by
  by_cases h : c.val ≤ a.val
  · rw [decide_eq_true h]
    show _ = 1#1
    word_omega
  · rw [decide_eq_false h]
    show _ = 0#1
    word_omega

theorem ofBits_128 : Ideal.ofBits .f32 0x43000000#32 = ((128 : ℝ) : EReal) := by
  simp [Ideal.ofBits, Ideal.ieee]
  rw [← EReal.coe_mul]
  norm_num

theorem div_sqrt_128 (x : ℝ) :
    Ideal.div (x : EReal) (Ideal.sqrt (Ideal.ofBits .f32 0x43000000#32)) = ((x * (Real.sqrt 128)⁻¹ : ℝ) : EReal) := by
  rw [ofBits_128, Ideal.sqrt_coe, if_neg (by norm_num), Ideal.div_coe (by positivity), ← EReal.coe_mul, one_div]

variable (x0 : FVec Ideal S2x1024x16x128 .f32) (x1 : FVec Ideal S2x1024x16 .f32) (x2 : FVec Ideal S2x1024x8x128 .f32)
  (x3 : FVec Ideal S2x1024x8 .f32) (x4 : FVec Ideal S2x1024x8x128 .f32) (x5 : FVec Ideal S2x1024x8 .f32)

theorem visible_apply (b : Fin 2) (h : Fin 8) (g : Fin 2) (q k : Fin 1024) :
    val_main_v22 (F := Ideal) (ix5 b h g q k) = BitVec.ofBool (decide (k.val < q.val)) := by
  pointwise [val_main_v22, val_main_v10, val_main_v9, val_main_v8, val_main_v7, val_main_v6, val_main_v5]
  exact cmpi_slt_pos k q

theorem from_key_apply (j k : Fin 1024) :
    val_main_v35 (F := Ideal) (ix2 j k) = if k.val ≤ j.val then (1 : EReal) else 0 := by
  pointwise [val_main_v35, val_main_v34, val_main_v33, val_main_v32, val_main_v31, val_main_v30, val_main_v5, cmpi_sge_pos]
  show (((BitVec.ofBool _).toNat : ℝ) : EReal) = _
  split
  · next h => rw [decide_eq_true h]; simp
  · next h => rw [decide_eq_false h]; simp

variable (hf : Finite x0 x1 x2 x3)

include hf

theorem z_apply (b : Fin 2) (h : Fin 8) (g : Fin 2) (q k : Fin 1024) :
    val_main_v21 (F := Ideal) x0 x1 x2 x3 (ix5 b h g q k) = ((realScore x0 x1 x2 x3 b h g q k.val : ℝ) : EReal) := by
  pointwise [val_main_v21, val_main_v20, val_main_v19, val_main_v18, val_main_v17, val_main_v16, val_main_v15, val_main_v14,
    val_main_v13, val_main_v12, val_main_v11, val_main_v3, val_main_v2, val_main_v1, val_main_v0, val_main_cst]
  rw [realScore, dif_pos k.isLt, ← div_sqrt_128, EReal.coe_mul, EReal.coe_mul, hf.queryScales, hf.keyScales,
    ← dot_eq x0 x1 x2 x3 hf]
  rfl

theorem skipped_apply (b : Fin 2) (h : Fin 8) (g : Fin 2) (q k : Fin 1024) :
    val_main_v29 (F := Ideal) x0 x1 x2 x3 (ix5 b h g q k)
      = (((if k.val < q.val then softplus (realScore x0 x1 x2 x3 b h g q k.val) else 0 : ℝ)) : EReal) := by
  pointwise [val_main_v29, val_main_v28, val_main_v27, val_main_v26, val_main_v25, val_main_v24, val_main_v23, val_main_cst_0,
    val_main_cst_1, visible_apply, z_apply x0 x1 x2 x3 hf, ofBits_oneUp]
  split
  · rw [reference_softplus]
  · rfl

theorem survived_apply (b : Fin 2) (h : Fin 8) (g : Fin 2) (q k : Fin 1024) :
    val_main_v36 (F := Ideal) x0 x1 x2 x3 (ix5 b h g q k)
      = ((span (realScore x0 x1 x2 x3 b h g q) q.val k.val 1024 : ℝ) : EReal) := by
  pointwise [val_main_v36, skipped_apply x0 x1 x2 x3 hf, from_key_apply]
  have hk : Finset.Ico k.val 1024 = (Finset.range 1024).filter (k.val ≤ ·) := by
    ext j
    simp only [Finset.mem_Ico, Finset.mem_filter, Finset.mem_range]
    omega
  rw [span, hk, Finset.sum_filter, coe_sum, Finset.sum_range]
  refine Finset.sum_congr rfl fun j _ => ?_
  by_cases h : k.val ≤ j.val
  · rw [if_pos h, if_pos h, mul_one]
  · rw [if_neg h, if_neg h, mul_zero, EReal.coe_zero]

theorem weight_apply (b : Fin 2) (h : Fin 8) (g : Fin 2) (q k : Fin 1024) :
    val_main_v41 (F := Ideal) x0 x1 x2 x3 (ix5 b h g q k) = weight (realScore x0 x1 x2 x3 b h g q) q.val k.val := by
  pointwise [val_main_v41, val_main_v40, val_main_v39, val_main_v38, val_main_v37, val_main_v10, val_main_v9, val_main_v8,
    val_main_v7, val_main_v6, val_main_v5, val_main_cst_2, z_apply x0 x1 x2 x3 hf, survived_apply x0 x1 x2 x3 hf, cmpi_slt_pos]
  rw [weight]
  split
  · rw [← EReal.coe_sub, Ideal.exp_coe]
  · rfl

theorem reference_out (b : Fin 2) (q : Fin 1024) (h : Fin 8) (g : Fin 2) (d : Fin 128) :
    val_main_v50 (F := Ideal) x0 x1 x2 x3 x4 x5 (ix3 b q ⟨256 * h.val + 128 * g.val + d.val, by omega⟩)
      = ∑ k : Fin 1024, x4 (ix4 b k h d) * x5 (ix3 b k h) * weight (realScore x0 x1 x2 x3 b h g q) q.val k.val := by
  pointwise [val_main_v50, val_main_v49, val_main_v48, val_main_v47, val_main_v46, val_main_v45, val_main_v44, val_main_v43,
    val_main_v42, val_main_v4, weight_apply x0 x1 x2 x3 hf]
  refine Finset.sum_congr rfl fun k _ => ?_
  rw [mul_assoc, mul_comm (weight _ _ _)]

theorem reference_lr (b : Fin 2) (h : Fin 8) (g : Fin 2) (q : Fin 1024) :
    val_main_v53 (F := Ideal) x0 x1 x2 x3 (ix4 b h g q)
      = ((-span (realScore x0 x1 x2 x3 b h g q) q.val 0 1024 : ℝ) : EReal) := by
  pointwise [val_main_v53, val_main_v52, val_main_v51, survived_apply x0 x1 x2 x3 hf]
  exact (EReal.coe_neg _).symm

end Cert.StickBreaking

end
-- ==== Proof.Array.lean ====
/- The result arrays: grid point `t` is batch `t / 8` and key head `t mod 8`, its blocks are that batch's and head's part of
   the arguments, and so every element of the two results is the reference's. -/
module

public import proofs.«01_k».proof.Proof.Stored
public import proofs.«01_k».proof.Proof.Reference
public import Idealize.ShloMosaic.Lib.Pipeline.ValueKit.Geometry

@[expose] public section

set_option maxRecDepth 16384

noncomputable section

namespace Cert.StickBreaking

open Idealize.ShloMosaic Idealize.SL.Sem Cert.KernelIdeal Cert.KernelIdeal.Gen Idealize.ShloMosaic.TcCoe

/-- A grid point's batch … -/
def batchOf (t : Fin cfg0.N) : Fin 2 := Fin.ofNat 2 (t.val / 8)

/-- … and key head. -/
def keyHeadOf (t : Fin cfg0.N) : Fin 8 := Fin.ofNat 8 t.val

theorem index0 : ∀ t : Fin cfg0.N, win0_0.index t = ![(batchOf t).val, 0, (keyHeadOf t).val] :=
  (by decide +kernel : ∀ t : Fin grid0.N, win0_0.index t = ![(Fin.ofNat 2 (t.val / 8)).val, 0, (Fin.ofNat 8 t.val).val])

theorem index1 : ∀ t : Fin cfg0.N, win0_1.index t = ![(batchOf t).val, (keyHeadOf t).val, 0, 0] :=
  (by decide +kernel : ∀ t : Fin grid0.N, win0_1.index t = ![(Fin.ofNat 2 (t.val / 8)).val, (Fin.ofNat 8 t.val).val, 0, 0])

theorem index2 : ∀ t : Fin cfg0.N, win0_2.index t = ![(batchOf t).val, (keyHeadOf t).val, 0, 0] :=
  (by decide +kernel : ∀ t : Fin grid0.N, win0_2.index t = ![(Fin.ofNat 2 (t.val / 8)).val, (Fin.ofNat 8 t.val).val, 0, 0])

theorem index3 : ∀ t : Fin cfg0.N, win0_3.index t = ![(batchOf t).val, (keyHeadOf t).val, 0, 0] :=
  (by decide +kernel : ∀ t : Fin grid0.N, win0_3.index t = ![(Fin.ofNat 2 (t.val / 8)).val, (Fin.ofNat 8 t.val).val, 0, 0])

theorem index4 : ∀ t : Fin cfg0.N, win0_4.index t = ![(batchOf t).val, (keyHeadOf t).val, 0, 0] :=
  (by decide +kernel : ∀ t : Fin grid0.N, win0_4.index t = ![(Fin.ofNat 2 (t.val / 8)).val, (Fin.ofNat 8 t.val).val, 0, 0])

theorem index5 : ∀ t : Fin cfg0.N, win0_5.index t = ![(batchOf t).val, (keyHeadOf t).val, 0, 0] :=
  (by decide +kernel : ∀ t : Fin grid0.N, win0_5.index t = ![(Fin.ofNat 2 (t.val / 8)).val, (Fin.ofNat 8 t.val).val, 0, 0])

theorem index6 : ∀ t : Fin cfg0.N, win0_6.index t = ![(batchOf t).val, 0, (keyHeadOf t).val] :=
  (by decide +kernel : ∀ t : Fin grid0.N, win0_6.index t = ![(Fin.ofNat 2 (t.val / 8)).val, 0, (Fin.ofNat 8 t.val).val])

theorem index7 : ∀ t : Fin cfg0.N, win0_7.index t = ![(batchOf t).val, (keyHeadOf t).val, 0, 0] :=
  (by decide +kernel : ∀ t : Fin grid0.N, win0_7.index t = ![(Fin.ofNat 2 (t.val / 8)).val, (Fin.ofNat 8 t.val).val, 0, 0])

/-- Where the windows' blocks lie. -/
theorem emb0 (t : Fin cfg0.N) (x : Fin 1024) (g : Fin 2) (d : Fin 128) :
    (win0_0.blk t).view.emb (ix3 (0 : Fin 1) x (⟨128 * g.val + d.val, by omega⟩ : Fin 256))
      = ix3 (batchOf t) x (⟨256 * (keyHeadOf t).val + 128 * g.val + d.val, by omega⟩ : Fin 2048) := by
  blk_ext [index0]

theorem emb1 (t : Fin cfg0.N) (x : Fin 1024) (d : Fin 128) :
    (win0_1.blk t).view.emb (ix4 (0 : Fin 1) (0 : Fin 1) x d) = ix4 (batchOf t) (keyHeadOf t) x d := by
  blk_ext [index1]

theorem emb2 (t : Fin cfg0.N) (x : Fin 1024) (d : Fin 128) :
    (win0_2.blk t).view.emb (ix4 (0 : Fin 1) (0 : Fin 1) d x) = ix4 (batchOf t) (keyHeadOf t) d x := by
  blk_ext [index2]

theorem emb3 (t : Fin cfg0.N) (g : Fin 2) (x : Fin 1024) :
    (win0_3.blk t).view.emb (ix4 (0 : Fin 1) (0 : Fin 1) g x) = ix4 (batchOf t) (keyHeadOf t) g x := by
  blk_ext [index3]

theorem emb4 (t : Fin cfg0.N) (x : Fin 1024) :
    (win0_4.blk t).view.emb (ix4 (0 : Fin 1) (0 : Fin 1) x (0 : Fin 1)) = ix4 (batchOf t) (keyHeadOf t) x (0 : Fin 1) := by
  blk_ext [index4]

theorem emb5 (t : Fin cfg0.N) (x : Fin 1024) :
    (win0_5.blk t).view.emb (ix4 (0 : Fin 1) (0 : Fin 1) (0 : Fin 1) x) = ix4 (batchOf t) (keyHeadOf t) (0 : Fin 1) x := by
  blk_ext [index5]

theorem emb6 (t : Fin cfg0.N) (x : Fin 1024) (g : Fin 2) (d : Fin 128) :
    (win0_6.blk t).view.emb (ix3 (0 : Fin 1) x (⟨128 * g.val + d.val, by omega⟩ : Fin 256))
      = ix3 (batchOf t) x (⟨256 * (keyHeadOf t).val + 128 * g.val + d.val, by omega⟩ : Fin 2048) := by
  blk_ext [index6]

theorem emb7 (t : Fin cfg0.N) (g : Fin 2) (x : Fin 1024) :
    (win0_7.blk t).view.emb (ix4 (0 : Fin 1) (0 : Fin 1) g x) = ix4 (batchOf t) (keyHeadOf t) g x := by
  blk_ext [index7]

variable (m : (ℓ : Loc nD τ sig) → Buf (Elt Ideal) ℓ) (c : Dev nD)

theorem blocks (t : Fin cfg0.N) :
    Blocks (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5))
      (batchOf t) (keyHeadOf t) (iblk m c 0 t) (iblk m c 1 t) (iblk m c 2 t) (iblk m c 3 t) (iblk m c 4 t) (iblk m c 5 t) where
  queries x g d := (congrArg (V m c main_v3) (emb0 t x g d)).trans (host_queries m c _ x _ g d)
  keys x d := (congrArg (V m c main_v7) (emb1 t x d)).trans (host_keys m c _ _ x d)
  values x d := (congrArg (V m c main_v12) (emb2 t x d)).trans (host_values m c _ _ x d)
  queryScales g x := (congrArg (V m c main_v24) (emb3 t g x)).trans (host_queryScales m c _ _ g x)
  keyScales x := (congrArg (V m c main_v22) (emb4 t x)).trans (host_keyScales m c _ _ x)
  valueScales x := (congrArg (V m c main_v17) (emb5 t x)).trans (host_valueScales m c _ _ x)

variable (hf : Finite (m (c, Proc.tc.devRef main_arg0)) (m (c, Proc.tc.devRef main_arg1)) (m (c, Proc.tc.devRef main_arg2))
  (m (c, Proc.tc.devRef main_arg3)))

include hf

/-- What point `t` leaves, at an index of its block. -/
theorem point_out (t : Fin cfg0.N) (q : Fin 1024) (g : Fin 2) (d : Fin 128) :
    (outsAt0 m c t).1 (ix3 0 q ⟨128 * g.val + d.val, by omega⟩)
      = Cert.ReferenceIdeal.Read.val_main_v50 (F := Ideal) (m (c, Proc.tc.devRef main_arg0)) (m (c, Proc.tc.devRef main_arg1))
        (m (c, Proc.tc.devRef main_arg2)) (m (c, Proc.tc.devRef main_arg3)) (m (c, Proc.tc.devRef main_arg4))
        (m (c, Proc.tc.devRef main_arg5))
        (ix3 (batchOf t) q ⟨256 * (keyHeadOf t).val + 128 * g.val + d.val, by omega⟩) := by
  unfold outsAt0
  dsimp only
  rw [stored_out _ _ _ _ _ _ _ _ _ _ _ _ _ _ hf (blocks m c t)]
  exact (reference_out _ _ _ _ _ _ hf _ q _ g d).symm

theorem point_lr (t : Fin cfg0.N) (g : Fin 2) (q : Fin 1024) :
    (outsAt0 m c t).2 (ix4 0 0 g q)
      = Cert.ReferenceIdeal.Read.val_main_v53 (F := Ideal) (m (c, Proc.tc.devRef main_arg0)) (m (c, Proc.tc.devRef main_arg1))
        (m (c, Proc.tc.devRef main_arg2)) (m (c, Proc.tc.devRef main_arg3)) (ix4 (batchOf t) (keyHeadOf t) g q) := by
  unfold outsAt0
  dsimp only
  rw [stored_lr _ _ _ _ _ _ _ _ _ _ _ _ _ _ hf (blocks m c t)]
  exact (reference_lr _ _ _ _ hf _ _ g q).symm

theorem array_out : (dats m 0 c).arrAt 6 cfg0.N
    = Cert.ReferenceIdeal.Read.val_main_v50 (F := Ideal) (m (c, Proc.tc.devRef main_arg0)) (m (c, Proc.tc.devRef main_arg1))
      (m (c, Proc.tc.devRef main_arg2)) (m (c, Proc.tc.devRef main_arg3)) (m (c, Proc.tc.devRef main_arg4))
      (m (c, Proc.tc.devRef main_arg5)) := by
  refine (dats m 0 c).arrAt_eq_of_covers 6 _ (by decide +kernel) fun t _ y => ?_
  blk_simp
  obtain ⟨q, g, d, rfl⟩ : ∃ (q : Fin 1024) (g : Fin 2) (d : Fin 128), y = ix3 (0 : Fin 1) q (⟨128 * g.val + d.val, by omega⟩ : Fin 256) := by
    have l2 : (y 2).val < 256 := (y 2).isLt
    refine ⟨y 1, ⟨(y 2).val / 128, by omega⟩, ⟨(y 2).val % 128, by omega⟩, (eq_ix3 y).trans ?_⟩
    rw [show y 0 = (0 : Fin 1) from Subsingleton.elim (α := Fin 1) _ _]
    congr 1
    exact Fin.ext (show (y 2).val = 128 * ((y 2).val / 128) + (y 2).val % 128 by omega)
  rw [after0_6, emb6]
  exact point_out m c hf t q g d

theorem array_lr : (dats m 0 c).arrAt 7 cfg0.N
    = Cert.ReferenceIdeal.Read.val_main_v53 (F := Ideal) (m (c, Proc.tc.devRef main_arg0)) (m (c, Proc.tc.devRef main_arg1))
      (m (c, Proc.tc.devRef main_arg2)) (m (c, Proc.tc.devRef main_arg3)) := by
  refine (dats m 0 c).arrAt_eq_of_covers 7 _ (by decide +kernel) fun t _ y => ?_
  blk_simp
  obtain ⟨g, q, rfl⟩ : ∃ (g : Fin 2) (q : Fin 1024), y = ix4 (0 : Fin 1) (0 : Fin 1) g q := by
    refine ⟨y 2, y 3, (eq_ix4 y).trans ?_⟩
    rw [show y 0 = (0 : Fin 1) from Subsingleton.elim (α := Fin 1) _ _, show y 1 = (0 : Fin 1) from Subsingleton.elim (α := Fin 1) _ _]
  rw [after0_7, emb7]
  exact point_lr m c hf t g q

end Cert.StickBreaking

end
-- ==== Proof.lean ====
/- The claims: the frames of the kernel, of its idealization and of the idealized reference; the named constants of the
   idealization; and, where the queries' and keys' codes and scales are finite, equal results of the two, both of them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Array
public import Idealize.ShloMosaic.Adequacy
public import Idealize.ShloMosaic.Init

@[expose] public section

noncomputable section

namespace Cert.Proof

open Idealize.ShloMosaic Idealize.SL.Sem

/-- Each named constant is what the certificate's table says it is. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- The reference's run: its arguments unchanged, its counters at zero. -/
theorem frame_ri : Cert.quiescent_ReferenceIdeal := fun m ρ _ =>
  (θ_run Cert.ReferenceIdeal.defs _ _).mono (fun r h => ⟨fun c => (h c).2.2,
      sem_eq_zero_of_no_sems (by decide) r.2⟩)
    (Cert.ReferenceIdeal.Value.run (F := Ideal) m ρ)

/-- Both results of the idealized kernel are the idealized reference's. -/
theorem algebraic : Cert.algebraic_KernelIdeal_ReferenceIdeal_pre_finite := by
  intro m ρ m' ρ' hpre hargs
  have hf : ∀ c, Cert.StickBreaking.Finite _ _ _ _ := fun c =>
    Cert.StickBreaking.finite_of_pre _ _ _ _ _ _ (hpre c).1 (hpre c).2.1 (hpre c).2.2.1 (hpre c).2.2.2
  refine ⟨_, _, Cert.KernelIdeal.Value.run_blocks m ρ,
    (θ_run Cert.ReferenceIdeal.defs _ _).mono (fun r h c => ?_) (Cert.ReferenceIdeal.Value.run (F := Ideal) m' ρ')⟩
  obtain ⟨h0, h1, h2, h3, h4, h5⟩ := hargs c
  refine ⟨(h c).1.trans ?_, (h c).2.1.trans ?_, (h c).2.2⟩
  · rw [Cert.ReferenceIdeal.Read.val_main_v50_eq, h0, h1, h2, h3, h4, h5]
    exact (Cert.StickBreaking.array_out m c (hf c)).symm
  · rw [Cert.ReferenceIdeal.Read.val_main_v53_eq, h0, h1, h2, h3]
    exact (Cert.StickBreaking.array_lr m c (hf c)).symm

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, frame_ri, fun m ρ _ => frame_ri m ρ trivial, preserves, algebraic⟩

end Cert.Proof

end
